-- ==== Defs.lean ====
def Pre_Kernel [hPre_ordered : Cert.Pre_ordered.Facts] (m : (ℓ : Loc Cert.Kernel.nD Cert.Kernel.τ Cert.Kernel.sig) → Buf (Elt Bits) ℓ) : Prop :=
  ∀ c : Dev Cert.Kernel.nD,
    (Cert.Pre_ordered.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_ordered : Cert.Pre_ordered.Facts] (m : (ℓ : Loc Cert.KernelIdeal.nD Cert.KernelIdeal.τ Cert.KernelIdeal.sig) → Buf (Elt Ideal) ℓ) : Prop :=
  ∀ c : Dev Cert.KernelIdeal.nD,
    (Cert.Pre_ordered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ordered [hPre_ordered : Cert.Pre_ordered.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ordered.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_ordered : Cert.Pre_ordered.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_ordered : Cert.Pre_ordered.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_ordered [hReferenceIdeal : Cert.ReferenceIdeal.Facts] [hPre_ordered : Cert.Pre_ordered.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ordered m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_ordered : Cert.Pre_ordered.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_ordered : Cert.Pre_ordered.Facts),
    quiescent_Kernel (hKernel := hKernel) (hPre_ordered := hPre_ordered)
    ∧ quiescent_KernelIdeal (hKernelIdeal := hKernelIdeal) (hPre_ordered := hPre_ordered)
    ∧ quiescent_ReferenceIdeal (hReferenceIdeal := hReferenceIdeal)
    ∧ quiescent_ReferenceIdeal_pre_ordered (hReferenceIdeal := hReferenceIdeal) (hPre_ordered := hPre_ordered)
    ∧ preserves_Kernel_KernelIdeal
    ∧ algebraic_KernelIdeal_ReferenceIdeal (hKernelIdeal := hKernelIdeal) (hReferenceIdeal := hReferenceIdeal) (hPre_ordered := hPre_ordered)
-- ==== Pre_ordered.lean ====
abbrev S100000x256 : Shape := ⟨2, ![100000, 256]⟩
abbrev S100000 : Shape := ⟨1, ![100000]⟩
abbrev S_ : Shape := ⟨0, ![]⟩
abbrev S99999 : Shape := ⟨1, ![99999]⟩

class Facts : Prop where
  bcast_S_S100000 : S_.BroadcastsInDim S100000 (![] : Fin 0 → Fin S100000.rank)
  reducesTo_S100000_S_d0 : S100000.ReducesTo [0] S_
  h_S_ : 0 < S_.numel
  slices_S100000_S99999_0 : S100000.Slices ![0] S99999
  slices_S100000_S99999_1 : S100000.Slices ![1] S99999
  reducesTo_S99999_S_d0 : S99999.ReducesTo [0] S_

variable [Facts]

def fn {F : FTy → Type} [FloatOps F] (main_arg0 : FVec F S100000x256 .f32) (main_arg1 : IVec S100000 32) : IVec S_ 1 :=
  let main_c : IVec S_ 32 := constantI S_ 32 0#32
  let main_v0 : IVec S100000 32 := broadcastInDim S100000 ![] bcast_S_S100000 main_c
  let main_v1 : IVec S100000 1 := cmpi .sge main_arg1 main_v0
  let main_c_0 : IVec S_ 32 := constantI S_ 32 512#32
  let main_v2 : IVec S100000 32 := broadcastInDim S100000 ![] bcast_S_S100000 main_c_0
  let main_v3 : IVec S100000 1 := cmpi .slt main_arg1 main_v2
  let main_v4 : IVec S100000 1 := andi main_v1 main_v3
  let main_c_1 : IVec S_ 1 := constantI S_ 1 1#1
  let main_v5 : IVec S_ 1 := (fun x v => Host.reduce IntOp.andi x v reducesTo_S100000_S_d0 h_S_) main_v4 main_c_1
  let main_v6 : IVec S99999 32 := (extractStridedSlice S99999 ![0] · slices_S100000_S99999_0) main_arg1
  let main_v7 : IVec S99999 32 := (extractStridedSlice S99999 ![1] · slices_S100000_S99999_1) main_arg1
  let main_v8 : IVec S99999 1 := cmpi .sle main_v6 main_v7
  let main_c_2 : IVec S_ 1 := constantI S_ 1 1#1
  let main_v9 : IVec S_ 1 := (fun x v => Host.reduce IntOp.andi x v reducesTo_S99999_S_d0 h_S_) main_v8 main_c_2
  let main_v10 : IVec S_ 1 := andi main_v5 main_v9
  main_v10
-- ==== Kernel.lean ====
abbrev S100000x256 : Shape := ⟨2, ![100000, 256]⟩
abbrev S100000 : Shape := ⟨1, ![100000]⟩
abbrev S_ : Shape := ⟨0, ![]⟩
abbrev S100352 : Shape := ⟨1, ![100352]⟩
abbrev S49x1x2048 : Shape := ⟨3, ![49, 1, 2048]⟩
abbrev S49x1x1 : Shape := ⟨3, ![49, 1, 1]⟩
abbrev S49 : Shape := ⟨1, ![49]⟩
abbrev S512x1280 : Shape := ⟨2, ![512, 1280]⟩
abbrev S2048x256 : Shape := ⟨2, ![2048, 256]⟩
abbrev S512x128 : Shape := ⟨2, ![512, 128]⟩
abbrev S2048x1 : Shape := ⟨2, ![2048, 1]⟩
abbrev S1x1x2048 : Shape := ⟨3, ![1, 1, 2048]⟩
abbrev S1x2048 : Shape := ⟨2, ![1, 2048]⟩
abbrev S1 : Shape := ⟨1, ![1]⟩
abbrev S32x1 : Shape := ⟨2, ![32, 1]⟩
abbrev S32x8 : Shape := ⟨2, ![32, 8]⟩
abbrev S32x2048 : Shape := ⟨2, ![32, 2048]⟩
abbrev S32x256 : Shape := ⟨2, ![32, 256]⟩
abbrev S32 : Shape := ⟨1, ![32]⟩
abbrev S32x128 : Shape := ⟨2, ![32, 128]⟩
abbrev S512x1 : Shape := ⟨2, ![512, 1]⟩
abbrev S512x256 : Shape := ⟨2, ![512, 256]⟩

abbrev nBuf : Space → Nat
  | .hbm => 48
  | .vmem => 6
  | .smem => 2
  | _ => 0

abbrev bufTy : (tb : Table) → Fin (tcTables nBuf tb) → BufTy
  | .hbm, ⟨0, _⟩ => ⟨S100000x256, .f32⟩
  | .hbm, ⟨1, _⟩ => ⟨S100000, .i32⟩
  | .hbm, ⟨2, _⟩ => ⟨S_, .i32⟩
  | .hbm, ⟨3, _⟩ => ⟨S_, .i32⟩
  | .hbm, ⟨4, _⟩ => ⟨S100352, .i32⟩
  | .hbm, ⟨5, _⟩ => ⟨S49x1x2048, .i32⟩
  | .hbm, ⟨6, _⟩ => ⟨S49x1x1, .i32⟩
  | .hbm, ⟨7, _⟩ => ⟨S49, .i32⟩
  | .hbm, ⟨8, _⟩ => ⟨S_, .i32⟩
  | .hbm, ⟨9, _⟩ => ⟨S_, .i32⟩
  | .hbm, ⟨10, _⟩ => ⟨S49, .i32⟩
  | .hbm, ⟨11, _⟩ => ⟨S49, .i32⟩
  | .hbm, ⟨12, _⟩ => ⟨S49, .i32⟩
  | .hbm, ⟨13, _⟩ => ⟨S_, .i32⟩
  | .hbm, ⟨14, _⟩ => ⟨S49, .i32⟩
  | .hbm, ⟨15, _⟩ => ⟨S49, .i1⟩
  | .hbm, ⟨16, _⟩ => ⟨S49, .i32⟩
  | .hbm, ⟨17, _⟩ => ⟨S49, .i32⟩
  | .hbm, ⟨18, _⟩ => ⟨S_, .i32⟩
  | .hbm, ⟨19, _⟩ => ⟨S49, .i32⟩
  | .hbm, ⟨20, _⟩ => ⟨S49, .i1⟩
  | .hbm, ⟨21, _⟩ => ⟨S49, .i1⟩
  | .hbm, ⟨22, _⟩ => ⟨S_, .i32⟩
  | .hbm, ⟨23, _⟩ => ⟨S49, .i32⟩
  | .hbm, ⟨24, _⟩ => ⟨S49, .i32⟩
  | .hbm, ⟨25, _⟩ => ⟨S49x1x1, .i32⟩
  | .hbm, ⟨26, _⟩ => ⟨S49, .i32⟩
  | .hbm, ⟨27, _⟩ => ⟨S_, .i32⟩
  | .hbm, ⟨28, _⟩ => ⟨S49, .i32⟩
  | .hbm, ⟨29, _⟩ => ⟨S49, .i32⟩
  | .hbm, ⟨30, _⟩ => ⟨S_, .i32⟩
  | .hbm, ⟨31, _⟩ => ⟨S_, .i32⟩
  | .hbm, ⟨32, _⟩ => ⟨S49, .i32⟩
  | .hbm, ⟨33, _⟩ => ⟨S49, .i32⟩
  | .hbm, ⟨34, _⟩ => ⟨S49, .i32⟩
  | .hbm, ⟨35, _⟩ => ⟨S_, .i32⟩
  | .hbm, ⟨36, _⟩ => ⟨S49, .i32⟩
  | .hbm, ⟨37, _⟩ => ⟨S49, .i1⟩
  | .hbm, ⟨38, _⟩ => ⟨S49, .i32⟩
  | .hbm, ⟨39, _⟩ => ⟨S49, .i32⟩
  | .hbm, ⟨40, _⟩ => ⟨S_, .i32⟩
  | .hbm, ⟨41, _⟩ => ⟨S49, .i32⟩
  | .hbm, ⟨42, _⟩ => ⟨S49, .i1⟩
  | .hbm, ⟨43, _⟩ => ⟨S49, .i1⟩
  | .hbm, ⟨44, _⟩ => ⟨S_, .i32⟩
  | .hbm, ⟨45, _⟩ => ⟨S49, .i32⟩
  | .hbm, ⟨46, _⟩ => ⟨S49, .i32⟩
  | .hbm, ⟨47, _⟩ => ⟨S512x1280, .f32⟩
  | .local _ .vmem, ⟨0, _⟩ => ⟨S2048x256, .f32⟩
  | .local _ .vmem, ⟨1, _⟩ => ⟨S2048x256, .f32⟩
  | .local _ .vmem, ⟨2, _⟩ => ⟨S49x1x2048, .i32⟩
  | .local _ .vmem, ⟨3, _⟩ => ⟨S512x1280, .f32⟩
  | .local _ .vmem, ⟨4, _⟩ => ⟨S512x128, .f32⟩
  | .local _ .vmem, ⟨5, _⟩ => ⟨S512x128, .f32⟩
  | .local _ .smem, ⟨0, _⟩ => ⟨S49, .i32⟩
  | .local _ .smem, ⟨1, _⟩ => ⟨S49, .i32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_call1_v0 : Ref sig .tc := ⟨.hbm, 9, rfl⟩
abbrev main_call1_v1 : Ref sig .tc := ⟨.hbm, 10, rfl⟩
abbrev main_call1_v2 : Ref sig .tc := ⟨.hbm, 11, rfl⟩
abbrev main_call1_v3 : Ref sig .tc := ⟨.hbm, 12, rfl⟩
abbrev main_call1_v4 : Ref sig .tc := ⟨.hbm, 13, rfl⟩
abbrev main_call1_v5 : Ref sig .tc := ⟨.hbm, 14, rfl⟩
abbrev main_call1_v6 : Ref sig .tc := ⟨.hbm, 15, rfl⟩
abbrev main_call1_v7 : Ref sig .tc := ⟨.hbm, 16, rfl⟩
abbrev main_call1_v8 : Ref sig .tc := ⟨.hbm, 17, rfl⟩
abbrev main_call1_c : Ref sig .tc := ⟨.hbm, 18, rfl⟩
abbrev main_call1_v9 : Ref sig .tc := ⟨.hbm, 19, rfl⟩
abbrev main_call1_v10 : Ref sig .tc := ⟨.hbm, 20, rfl⟩
abbrev main_call1_v11 : Ref sig .tc := ⟨.hbm, 21, rfl⟩
abbrev main_call1_c_0 : Ref sig .tc := ⟨.hbm, 22, rfl⟩
abbrev main_call1_v12 : Ref sig .tc := ⟨.hbm, 23, rfl⟩
abbrev main_call1_v13 : Ref sig .tc := ⟨.hbm, 24, rfl⟩
abbrev main_v5 : Ref sig .tc := ⟨.hbm, 25, rfl⟩
abbrev main_v6 : Ref sig .tc := ⟨.hbm, 26, rfl⟩
abbrev main_c_1 : Ref sig .tc := ⟨.hbm, 27, rfl⟩
abbrev main_v7 : Ref sig .tc := ⟨.hbm, 28, rfl⟩
abbrev main_v8 : Ref sig .tc := ⟨.hbm, 29, rfl⟩
abbrev main_c_2 : Ref sig .tc := ⟨.hbm, 30, rfl⟩
abbrev main_call2_v0 : Ref sig .tc := ⟨.hbm, 31, rfl⟩
abbrev main_call2_v1 : Ref sig .tc := ⟨.hbm, 32, rfl⟩
abbrev main_call2_v2 : Ref sig .tc := ⟨.hbm, 33, rfl⟩
abbrev main_call2_v3 : Ref sig .tc := ⟨.hbm, 34, rfl⟩
abbrev main_call2_v4 : Ref sig .tc := ⟨.hbm, 35, rfl⟩
abbrev main_call2_v5 : Ref sig .tc := ⟨.hbm, 36, rfl⟩
abbrev main_call2_v6 : Ref sig .tc := ⟨.hbm, 37, rfl⟩
abbrev main_call2_v7 : Ref sig .tc := ⟨.hbm, 38, rfl⟩
abbrev main_call2_v8 : Ref sig .tc := ⟨.hbm, 39, rfl⟩
abbrev main_call2_c : Ref sig .tc := ⟨.hbm, 40, rfl⟩
abbrev main_call2_v9 : Ref sig .tc := ⟨.hbm, 41, rfl⟩
abbrev main_call2_v10 : Ref sig .tc := ⟨.hbm, 42, rfl⟩
abbrev main_call2_v11 : Ref sig .tc := ⟨.hbm, 43, rfl⟩
abbrev main_call2_c_0 : Ref sig .tc := ⟨.hbm, 44, rfl⟩
abbrev main_call2_v12 : Ref sig .tc := ⟨.hbm, 45, rfl⟩
abbrev main_call2_v13 : Ref sig .tc := ⟨.hbm, 46, rfl⟩
abbrev main_v10 : Ref sig .tc := ⟨.hbm, 47, rfl⟩
abbrev main_v4 : Ref sig .tc := ⟨.smem, 0, rfl⟩
abbrev main_v9 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3

abbrev nD : Nat := 1
abbrev τ : Topo := Topo.v7x

variable {F : FTy → Type} [FloatOps F]

abbrev grid0 : Pipeline.Grid := ⟨1, ![49], ![false]⟩

abbrev pre0 : Pipeline.Prefetch sig := ⟨2, ![main_v4.idx, main_v9.idx], fun | 0 => main_v4.names | 1 => main_v9.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 3 → Nat :=
  let arg0 : BitVec 32 := BitVec.ofNat 32 (i 0).val
  let v15 : Index := Scalar.indexCast arg0
  let c0_2 : Index := 0#32
  let c0_3 : Index := 0#32
  ![v15.toNat, 0, 0]
def k0_off2 (i : grid0.Coords) : Fin 1 → Nat :=
  let arg0 : BitVec 32 := BitVec.ofNat 32 (i 0).val
  let v25 : Index := Scalar.indexCast arg0
  ![v25.toNat]
@[reducible] def k0_t1_loop (v26 : BitVec 32) (v28 : BitVec 32) : Scf.Loop 32 :=
  let c1_i32 : BitVec 32 := 1#32
  let v33 : BitVec 32 := Scalar.addi v28 c1_i32
  let v34 : BitVec 32 := Scalar.subi v33 v26
  let c1_i32_7 : BitVec 32 := 1#32
  let v36 : BitVec 32 := Scalar.divsi v34 c1_i32_7
  let v37 : BitVec 32 := Scalar.muli v36 c1_i32_7
  let v38 : BitVec 32 := Scalar.addi v26 v37
  let c1_i32_8 : BitVec 32 := 1#32
  ⟨v26, v38, c1_i32_8⟩

def k0_off3 (v26 : BitVec 32) (v28 : BitVec 32) (k0_t1 : Fin (k0_t1_loop v26 v28).trips) : Fin 2 → Nat :=
  let c1_i32_8 : BitVec 32 := 1#32
  let arg8 : BitVec 32 := Scf.iv v26 c1_i32_8 k0_t1
  let c32_i32_11 : BitVec 32 := 32#32
  let v48 : BitVec 32 := Scalar.muli arg8 c32_i32_11
  let v49 : Index := Scalar.indexCast v48
  let c256 : Index := 256#32
  ![v49.toNat, 256]
def k0_off4 (v26 : BitVec 32) (v28 : BitVec 32) (k0_t1 : Fin (k0_t1_loop v26 v28).trips) : Fin 2 → Nat :=
  let c1_i32_8 : BitVec 32 := 1#32
  let arg8 : BitVec 32 := Scf.iv v26 c1_i32_8 k0_t1
  let c32_i32_14 : BitVec 32 := 32#32
  let v59 : BitVec 32 := Scalar.muli arg8 c32_i32_14
  let v60 : Index := Scalar.indexCast v59
  let c0_15 : Index := 0#32
  ![v60.toNat, 0]
def k0_off5 (v26 : BitVec 32) (v28 : BitVec 32) (k0_t1 : Fin (k0_t1_loop v26 v28).trips) : Fin 2 → Nat :=
  let c1_i32_8 : BitVec 32 := 1#32
  let arg8 : BitVec 32 := Scf.iv v26 c1_i32_8 k0_t1
  let c32_i32_33 : BitVec 32 := 32#32
  let v137 : BitVec 32 := Scalar.muli arg8 c32_i32_33
  let v138 : Index := Scalar.indexCast v137
  let c0_34 : Index := 0#32
  ![v138.toNat, 0]
def k0_off6 (v26 : BitVec 32) (v28 : BitVec 32) (k0_t1 : Fin (k0_t1_loop v26 v28).trips) : Fin 2 → Nat :=
  let c1_i32_8 : BitVec 32 := 1#32
  let arg8 : BitVec 32 := Scf.iv v26 c1_i32_8 k0_t1
  let c32_i32_69 : BitVec 32 := 32#32
  let v296 : BitVec 32 := Scalar.muli arg8 c32_i32_69
  let v297 : Index := Scalar.indexCast v296
  let c512 : Index := 512#32
  ![v297.toNat, 512]
def k0_off7 (v26 : BitVec 32) (v28 : BitVec 32) (k0_t1 : Fin (k0_t1_loop v26 v28).trips) : Fin 2 → Nat :=
  let c1_i32_8 : BitVec 32 := 1#32
  let arg8 : BitVec 32 := Scf.iv v26 c1_i32_8 k0_t1
  let c32_i32_70 : BitVec 32 := 32#32
  let v300 : BitVec 32 := Scalar.muli arg8 c32_i32_70
  let v301 : Index := Scalar.indexCast v300
  let c768 : Index := 768#32
  ![v301.toNat, 768]
def k0_off8 (v26 : BitVec 32) (v28 : BitVec 32) (k0_t1 : Fin (k0_t1_loop v26 v28).trips) : Fin 2 → Nat :=
  let c1_i32_8 : BitVec 32 := 1#32
  let arg8 : BitVec 32 := Scf.iv v26 c1_i32_8 k0_t1
  let c32_i32_71 : BitVec 32 := 32#32
  let v304 : BitVec 32 := Scalar.muli arg8 c32_i32_71
  let v305 : Index := Scalar.indexCast v304
  let c1024 : Index := 1024#32
  ![v305.toNat, 1024]
@[reducible] def k0_t2_loop (v26 : BitVec 32) (v28 : BitVec 32) : Scf.Loop 32 :=
  let c1_i32 : BitVec 32 := 1#32
  let v33 : BitVec 32 := Scalar.addi v28 c1_i32
  let v34 : BitVec 32 := Scalar.subi v33 v26
  let c1_i32_7 : BitVec 32 := 1#32
  let v36 : BitVec 32 := Scalar.divsi v34 c1_i32_7
  let v37 : BitVec 32 := Scalar.muli v36 c1_i32_7
  let v38 : BitVec 32 := Scalar.addi v26 v37
  let v35 : BitVec 32 := Scalar.addi v26 v34
  let c1_i32_9 : BitVec 32 := 1#32
  ⟨v38, v35, c1_i32_9⟩
def k0_off9 (v26 : BitVec 32) (v28 : BitVec 32) (k0_t2 : Fin (k0_t2_loop v26 v28).trips) : Fin 2 → Nat :=
  let c1_i32 : BitVec 32 := 1#32
  let v33 : BitVec 32 := Scalar.addi v28 c1_i32
  let v34 : BitVec 32 := Scalar.subi v33 v26
  let c1_i32_7 : BitVec 32 := 1#32
  let v36 : BitVec 32 := Scalar.divsi v34 c1_i32_7
  let v37 : BitVec 32 := Scalar.muli v36 c1_i32_7
  let v38 : BitVec 32 := Scalar.addi v26 v37
  let c1_i32_9 : BitVec 32 := 1#32
  let arg8 : BitVec 32 := Scf.iv v38 c1_i32_9 k0_t2
  let c32_i32_11 : BitVec 32 := 32#32
  let v48 : BitVec 32 := Scalar.muli arg8 c32_i32_11
  let v49 : Index := Scalar.indexCast v48
  let c256 : Index := 256#32
  ![v49.toNat, 256]
def k0_off10 (v26 : BitVec 32) (v28 : BitVec 32) (k0_t2 : Fin (k0_t2_loop v26 v28).trips) : Fin 2 → Nat :=
  let c1_i32 : BitVec 32 := 1#32
  let v33 : BitVec 32 := Scalar.addi v28 c1_i32
  let v34 : BitVec 32 := Scalar.subi v33 v26
  let c1_i32_7 : BitVec 32 := 1#32
  let v36 : BitVec 32 := Scalar.divsi v34 c1_i32_7
  let v37 : BitVec 32 := Scalar.muli v36 c1_i32_7
  let v38 : BitVec 32 := Scalar.addi v26 v37
  let c1_i32_9 : BitVec 32 := 1#32
  let arg8 : BitVec 32 := Scf.iv v38 c1_i32_9 k0_t2
  let c32_i32_14 : BitVec 32 := 32#32
  let v59 : BitVec 32 := Scalar.muli arg8 c32_i32_14
  let v60 : Index := Scalar.indexCast v59
  let c0_15 : Index := 0#32
  ![v60.toNat, 0]
def k0_off11 (v26 : BitVec 32) (v28 : BitVec 32) (k0_t2 : Fin (k0_t2_loop v26 v28).trips) : Fin 2 → Nat :=
  let c1_i32 : BitVec 32 := 1#32
  let v33 : BitVec 32 := Scalar.addi v28 c1_i32
  let v34 : BitVec 32 := Scalar.subi v33 v26
  let c1_i32_7 : BitVec 32 := 1#32
  let v36 : BitVec 32 := Scalar.divsi v34 c1_i32_7
  let v37 : BitVec 32 := Scalar.muli v36 c1_i32_7
  let v38 : BitVec 32 := Scalar.addi v26 v37
  let c1_i32_9 : BitVec 32 := 1#32
  let arg8 : BitVec 32 := Scf.iv v38 c1_i32_9 k0_t2
  let c32_i32_33 : BitVec 32 := 32#32
  let v137 : BitVec 32 := Scalar.muli arg8 c32_i32_33
  let v138 : Index := Scalar.indexCast v137
  let c0_34 : Index := 0#32
  ![v138.toNat, 0]
def k0_off12 (v26 : BitVec 32) (v28 : BitVec 32) (k0_t2 : Fin (k0_t2_loop v26 v28).trips) : Fin 2 → Nat :=
  let c1_i32 : BitVec 32 := 1#32
  let v33 : BitVec 32 := Scalar.addi v28 c1_i32
  let v34 : BitVec 32 := Scalar.subi v33 v26
  let c1_i32_7 : BitVec 32 := 1#32
  let v36 : BitVec 32 := Scalar.divsi v34 c1_i32_7
  let v37 : BitVec 32 := Scalar.muli v36 c1_i32_7
  let v38 : BitVec 32 := Scalar.addi v26 v37
  let c1_i32_9 : BitVec 32 := 1#32
  let arg8 : BitVec 32 := Scf.iv v38 c1_i32_9 k0_t2
  let c32_i32_69 : BitVec 32 := 32#32
  let v296 : BitVec 32 := Scalar.muli arg8 c32_i32_69
  let v297 : Index := Scalar.indexCast v296
  let c512 : Index := 512#32
  ![v297.toNat, 512]
def k0_off13 (v26 : BitVec 32) (v28 : BitVec 32) (k0_t2 : Fin (k0_t2_loop v26 v28).trips) : Fin 2 → Nat :=
  let c1_i32 : BitVec 32 := 1#32
  let v33 : BitVec 32 := Scalar.addi v28 c1_i32
  let v34 : BitVec 32 := Scalar.subi v33 v26
  let c1_i32_7 : BitVec 32 := 1#32
  let v36 : BitVec 32 := Scalar.divsi v34 c1_i32_7
  let v37 : BitVec 32 := Scalar.muli v36 c1_i32_7
  let v38 : BitVec 32 := Scalar.addi v26 v37
  let c1_i32_9 : BitVec 32 := 1#32
  let arg8 : BitVec 32 := Scf.iv v38 c1_i32_9 k0_t2
  let c32_i32_70 : BitVec 32 := 32#32
  let v300 : BitVec 32 := Scalar.muli arg8 c32_i32_70
  let v301 : Index := Scalar.indexCast v300
  let c768 : Index := 768#32
  ![v301.toNat, 768]
def k0_off14 (v26 : BitVec 32) (v28 : BitVec 32) (k0_t2 : Fin (k0_t2_loop v26 v28).trips) : Fin 2 → Nat :=
  let c1_i32 : BitVec 32 := 1#32
  let v33 : BitVec 32 := Scalar.addi v28 c1_i32
  let v34 : BitVec 32 := Scalar.subi v33 v26
  let c1_i32_7 : BitVec 32 := 1#32
  let v36 : BitVec 32 := Scalar.divsi v34 c1_i32_7
  let v37 : BitVec 32 := Scalar.muli v36 c1_i32_7
  let v38 : BitVec 32 := Scalar.addi v26 v37
  let c1_i32_9 : BitVec 32 := 1#32
  let arg8 : BitVec 32 := Scf.iv v38 c1_i32_9 k0_t2
  let c32_i32_71 : BitVec 32 := 32#32
  let v304 : BitVec 32 := Scalar.muli arg8 c32_i32_71
  let v305 : Index := Scalar.indexCast v304
  let c1024 : Index := 1024#32
  ![v305.toNat, 1024]

def k0_chk1 (v26 : BitVec 32) (v28 : BitVec 32) : Prop :=
  ((k0_t1_loop v26 v28).OK) ∧
  (∀ k0_t1 : Fin (k0_t1_loop v26 v28).trips, ∀ a, (k0_off3 v26 v28 k0_t1) a + S32x256.size a ≤ S512x1280.size a) ∧
  (∀ k0_t1 : Fin (k0_t1_loop v26 v28).trips, ∀ a, (k0_off4 v26 v28 k0_t1) a + S32x1.size a ≤ S512x128.size a) ∧
  (∀ k0_t1 : Fin (k0_t1_loop v26 v28).trips, ∀ a, (k0_off5 v26 v28 k0_t1) a + S32x128.size a ≤ S512x128.size a) ∧
  (∀ k0_t1 : Fin (k0_t1_loop v26 v28).trips, ∀ a, (k0_off6 v26 v28 k0_t1) a + S32x256.size a ≤ S512x1280.size a) ∧
  (∀ k0_t1 : Fin (k0_t1_loop v26 v28).trips, ∀ a, (k0_off7 v26 v28 k0_t1) a + S32x256.size a ≤ S512x1280.size a) ∧
  (∀ k0_t1 : Fin (k0_t1_loop v26 v28).trips, ∀ a, (k0_off8 v26 v28 k0_t1) a + S32x256.size a ≤ S512x1280.size a) ∧
  ((k0_t2_loop v26 v28).OK) ∧
  (∀ k0_t2 : Fin (k0_t2_loop v26 v28).trips, ∀ a, (k0_off9 v26 v28 k0_t2) a + S32x256.size a ≤ S512x1280.size a) ∧
  (∀ k0_t2 : Fin (k0_t2_loop v26 v28).trips, ∀ a, (k0_off10 v26 v28 k0_t2) a + S32x1.size a ≤ S512x128.size a) ∧
  (∀ k0_t2 : Fin (k0_t2_loop v26 v28).trips, ∀ a, (k0_off11 v26 v28 k0_t2) a + S32x128.size a ≤ S512x128.size a) ∧
  (∀ k0_t2 : Fin (k0_t2_loop v26 v28).trips, ∀ a, (k0_off12 v26 v28 k0_t2) a + S32x256.size a ≤ S512x1280.size a) ∧
  (∀ k0_t2 : Fin (k0_t2_loop v26 v28).trips, ∀ a, (k0_off13 v26 v28 k0_t2) a + S32x256.size a ≤ S512x1280.size a) ∧
  (∀ k0_t2 : Fin (k0_t2_loop v26 v28).trips, ∀ a, (k0_off14 v26 v28 k0_t2) a + S32x256.size a ≤ S512x1280.size a)
theorem k0_t1_ok : ∀ (v26 : BitVec 32) (v28 : BitVec 32) (k0_hw1 : k0_chk1 v26 v28), (k0_t1_loop v26 v28).OK := fun v26 v28 k0_hw1 => k0_hw1.1
theorem k0_off3_inb : ∀ (v26 : BitVec 32) (v28 : BitVec 32) (k0_hw1 : k0_chk1 v26 v28) (k0_t1 : Fin (k0_t1_loop v26 v28).trips), ∀ a, (k0_off3 v26 v28 k0_t1) a + S32x256.size a ≤ S512x1280.size a := fun v26 v28 k0_hw1 k0_t1 => k0_hw1.2.1 k0_t1
theorem k0_off4_inb : ∀ (v26 : BitVec 32) (v28 : BitVec 32) (k0_hw1 : k0_chk1 v26 v28) (k0_t1 : Fin (k0_t1_loop v26 v28).trips), ∀ a, (k0_off4 v26 v28 k0_t1) a + S32x1.size a ≤ S512x128.size a := fun v26 v28 k0_hw1 k0_t1 => k0_hw1.2.2.1 k0_t1
theorem k0_off5_inb : ∀ (v26 : BitVec 32) (v28 : BitVec 32) (k0_hw1 : k0_chk1 v26 v28) (k0_t1 : Fin (k0_t1_loop v26 v28).trips), ∀ a, (k0_off5 v26 v28 k0_t1) a + S32x128.size a ≤ S512x128.size a := fun v26 v28 k0_hw1 k0_t1 => k0_hw1.2.2.2.1 k0_t1
theorem k0_off6_inb : ∀ (v26 : BitVec 32) (v28 : BitVec 32) (k0_hw1 : k0_chk1 v26 v28) (k0_t1 : Fin (k0_t1_loop v26 v28).trips), ∀ a, (k0_off6 v26 v28 k0_t1) a + S32x256.size a ≤ S512x1280.size a := fun v26 v28 k0_hw1 k0_t1 => k0_hw1.2.2.2.2.1 k0_t1
theorem k0_off7_inb : ∀ (v26 : BitVec 32) (v28 : BitVec 32) (k0_hw1 : k0_chk1 v26 v28) (k0_t1 : Fin (k0_t1_loop v26 v28).trips), ∀ a, (k0_off7 v26 v28 k0_t1) a + S32x256.size a ≤ S512x1280.size a := fun v26 v28 k0_hw1 k0_t1 => k0_hw1.2.2.2.2.2.1 k0_t1
theorem k0_off8_inb : ∀ (v26 : BitVec 32) (v28 : BitVec 32) (k0_hw1 : k0_chk1 v26 v28) (k0_t1 : Fin (k0_t1_loop v26 v28).trips), ∀ a, (k0_off8 v26 v28 k0_t1) a + S32x256.size a ≤ S512x1280.size a := fun v26 v28 k0_hw1 k0_t1 => k0_hw1.2.2.2.2.2.2.1 k0_t1
theorem k0_t2_ok : ∀ (v26 : BitVec 32) (v28 : BitVec 32) (k0_hw1 : k0_chk1 v26 v28), (k0_t2_loop v26 v28).OK := fun v26 v28 k0_hw1 => k0_hw1.2.2.2.2.2.2.2.1
theorem k0_off9_inb : ∀ (v26 : BitVec 32) (v28 : BitVec 32) (k0_hw1 : k0_chk1 v26 v28) (k0_t2 : Fin (k0_t2_loop v26 v28).trips), ∀ a, (k0_off9 v26 v28 k0_t2) a + S32x256.size a ≤ S512x1280.size a := fun v26 v28 k0_hw1 k0_t2 => k0_hw1.2.2.2.2.2.2.2.2.1 k0_t2
theorem k0_off10_inb : ∀ (v26 : BitVec 32) (v28 : BitVec 32) (k0_hw1 : k0_chk1 v26 v28) (k0_t2 : Fin (k0_t2_loop v26 v28).trips), ∀ a, (k0_off10 v26 v28 k0_t2) a + S32x1.size a ≤ S512x128.size a := fun v26 v28 k0_hw1 k0_t2 => k0_hw1.2.2.2.2.2.2.2.2.2.1 k0_t2
theorem k0_off11_inb : ∀ (v26 : BitVec 32) (v28 : BitVec 32) (k0_hw1 : k0_chk1 v26 v28) (k0_t2 : Fin (k0_t2_loop v26 v28).trips), ∀ a, (k0_off11 v26 v28 k0_t2) a + S32x128.size a ≤ S512x128.size a := fun v26 v28 k0_hw1 k0_t2 => k0_hw1.2.2.2.2.2.2.2.2.2.2.1 k0_t2
theorem k0_off12_inb : ∀ (v26 : BitVec 32) (v28 : BitVec 32) (k0_hw1 : k0_chk1 v26 v28) (k0_t2 : Fin (k0_t2_loop v26 v28).trips), ∀ a, (k0_off12 v26 v28 k0_t2) a + S32x256.size a ≤ S512x1280.size a := fun v26 v28 k0_hw1 k0_t2 => k0_hw1.2.2.2.2.2.2.2.2.2.2.2.1 k0_t2
theorem k0_off13_inb : ∀ (v26 : BitVec 32) (v28 : BitVec 32) (k0_hw1 : k0_chk1 v26 v28) (k0_t2 : Fin (k0_t2_loop v26 v28).trips), ∀ a, (k0_off13 v26 v28 k0_t2) a + S32x256.size a ≤ S512x1280.size a := fun v26 v28 k0_hw1 k0_t2 => k0_hw1.2.2.2.2.2.2.2.2.2.2.2.2.1 k0_t2
theorem k0_off14_inb : ∀ (v26 : BitVec 32) (v28 : BitVec 32) (k0_hw1 : k0_chk1 v26 v28) (k0_t2 : Fin (k0_t2_loop v26 v28).trips), ∀ a, (k0_off14 v26 v28 k0_t2) a + S32x256.size a ≤ S512x1280.size a := fun v26 v28 k0_hw1 k0_t2 => k0_hw1.2.2.2.2.2.2.2.2.2.2.2.2.2 k0_t2

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S49x1x2048 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x1280 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceIdeal.lean ====
abbrev S100000x256 : Shape := ⟨2, ![100000, 256]⟩
abbrev S100000 : Shape := ⟨1, ![100000]⟩
abbrev S_ : Shape := ⟨0, ![]⟩
abbrev S512 : Shape := ⟨1, ![512]⟩
abbrev S100000x1 : Shape := ⟨2, ![100000, 1]⟩
abbrev S512x256 : Shape := ⟨2, ![512, 256]⟩
abbrev S512x1 : Shape := ⟨2, ![512, 1]⟩
abbrev S512x3x256 : Shape := ⟨3, ![512, 3, 256]⟩
abbrev S100000x2 : Shape := ⟨2, ![100000, 2]⟩
abbrev S512x768 : Shape := ⟨2, ![512, 768]⟩
abbrev S512x1280 : Shape := ⟨2, ![512, 1280]⟩

abbrev nBuf : Space → Nat
  | .hbm => 103
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S100000, .i32⟩
  | .hbm, ⟨2, _⟩ => ⟨S_, .i32⟩
  | .hbm, ⟨3, _⟩ => ⟨S512, .i32⟩
  | .hbm, ⟨4, _⟩ => ⟨S_, .i32⟩
  | .hbm, ⟨5, _⟩ => ⟨S_, .i32⟩
  | .hbm, ⟨6, _⟩ => ⟨S100000, .i32⟩
  | .hbm, ⟨7, _⟩ => ⟨S100000, .i32⟩
  | .hbm, ⟨8, _⟩ => ⟨S_, .i32⟩
  | .hbm, ⟨9, _⟩ => ⟨S100000, .i32⟩
  | .hbm, ⟨10, _⟩ => ⟨S100000, .i1⟩
  | .hbm, ⟨11, _⟩ => ⟨S_, .i32⟩
  | .hbm, ⟨12, _⟩ => ⟨S100000, .i32⟩
  | .hbm, ⟨13, _⟩ => ⟨S100000, .i32⟩
  | .hbm, ⟨14, _⟩ => ⟨S100000, .i32⟩
  | .hbm, ⟨15, _⟩ => ⟨S100000x1, .i32⟩
  | .hbm, ⟨16, _⟩ => ⟨S_, .i32⟩
  | .hbm, ⟨17, _⟩ => ⟨S100000, .i32⟩
  | .hbm, ⟨18, _⟩ => ⟨S512, .i32⟩
  | .hbm, ⟨19, _⟩ => ⟨S_, .f32⟩
  | .hbm, ⟨20, _⟩ => ⟨S512x256, .f32⟩
  | .hbm, ⟨21, _⟩ => ⟨S100000x1, .i32⟩
  | .hbm, ⟨22, _⟩ => ⟨S512x256, .f32⟩
  | .hbm, ⟨23, _⟩ => ⟨S_, .i32⟩
  | .hbm, ⟨24, _⟩ => ⟨S512, .i32⟩
  | .hbm, ⟨25, _⟩ => ⟨S512, .i32⟩
  | .hbm, ⟨26, _⟩ => ⟨S512, .f32⟩
  | .hbm, ⟨27, _⟩ => ⟨S512x1, .f32⟩
  | .hbm, ⟨28, _⟩ => ⟨S512x256, .f32⟩
  | .hbm, ⟨29, _⟩ => ⟨S512x256, .f32⟩
  | .hbm, ⟨30, _⟩ => ⟨S100000x1, .f32⟩
  | .hbm, ⟨31, _⟩ => ⟨S100000, .f32⟩
  | .hbm, ⟨32, _⟩ => ⟨S100000, .f32⟩
  | .hbm, ⟨33, _⟩ => ⟨S100000, .i32⟩
  | .hbm, ⟨34, _⟩ => ⟨S100000, .i32⟩
  | .hbm, ⟨35, _⟩ => ⟨S100000, .f32⟩
  | .hbm, ⟨36, _⟩ => ⟨S100000, .i32⟩
  | .hbm, ⟨37, _⟩ => ⟨S_, .i32⟩
  | .hbm, ⟨38, _⟩ => ⟨S100000, .i32⟩
  | .hbm, ⟨39, _⟩ => ⟨S100000, .i1⟩
  | .hbm, ⟨40, _⟩ => ⟨S_, .i32⟩
  | .hbm, ⟨41, _⟩ => ⟨S100000, .i32⟩
  | .hbm, ⟨42, _⟩ => ⟨S100000, .i32⟩
  | .hbm, ⟨43, _⟩ => ⟨S100000, .i32⟩
  | .hbm, ⟨44, _⟩ => ⟨S100000x1, .i32⟩
  | .hbm, ⟨45, _⟩ => ⟨S100000x256, .f32⟩
  | .hbm, ⟨46, _⟩ => ⟨S_, .i32⟩
  | .hbm, ⟨47, _⟩ => ⟨S100000, .i32⟩
  | .hbm, ⟨48, _⟩ => ⟨S100000, .i1⟩
  | .hbm, ⟨49, _⟩ => ⟨S_, .i32⟩
  | .hbm, ⟨50, _⟩ => ⟨S100000, .i32⟩
  | .hbm, ⟨51, _⟩ => ⟨S100000, .i32⟩
  | .hbm, ⟨52, _⟩ => ⟨S100000, .i32⟩
  | .hbm, ⟨53, _⟩ => ⟨S100000x1, .i32⟩
  | .hbm, ⟨54, _⟩ => ⟨S100000, .i32⟩
  | .hbm, ⟨55, _⟩ => ⟨S_, .i32⟩
  | .hbm, ⟨56, _⟩ => ⟨S_, .i32⟩
  | .hbm, ⟨57, _⟩ => ⟨S512, .i32⟩
  | .hbm, ⟨58, _⟩ => ⟨S512, .i32⟩
  | .hbm, ⟨59, _⟩ => ⟨S100000, .i32⟩
  | .hbm, ⟨60, _⟩ => ⟨S_, .i32⟩
  | .hbm, ⟨61, _⟩ => ⟨S100000, .i32⟩
  | .hbm, ⟨62, _⟩ => ⟨S100000, .i1⟩
  | .hbm, ⟨63, _⟩ => ⟨S_, .i32⟩
  | .hbm, ⟨64, _⟩ => ⟨S100000, .i32⟩
  | .hbm, ⟨65, _⟩ => ⟨S100000, .i32⟩
  | .hbm, ⟨66, _⟩ => ⟨S100000, .i32⟩
  | .hbm, ⟨67, _⟩ => ⟨S100000x1, .i32⟩
  | .hbm, ⟨68, _⟩ => ⟨S100000, .i32⟩
  | .hbm, ⟨69, _⟩ => ⟨S100000, .i32⟩
  | .hbm, ⟨70, _⟩ => ⟨S_, .i32⟩
  | .hbm, ⟨71, _⟩ => ⟨S100000, .i32⟩
  | .hbm, ⟨72, _⟩ => ⟨S100000, .i1⟩
  | .hbm, ⟨73, _⟩ => ⟨S_, .i32⟩
  | .hbm, ⟨74, _⟩ => ⟨S_, .i32⟩
  | .hbm, ⟨75, _⟩ => ⟨S100000, .i32⟩
  | .hbm, ⟨76, _⟩ => ⟨S100000, .i32⟩
  | .hbm, ⟨77, _⟩ => ⟨S_, .i32⟩
  | .hbm, ⟨78, _⟩ => ⟨S_, .i32⟩
  | .hbm, ⟨79, _⟩ => ⟨S100000, .i32⟩
  | .hbm, ⟨80, _⟩ => ⟨S100000, .i32⟩
  | .hbm, ⟨81, _⟩ => ⟨S_, .f32⟩
  | .hbm, ⟨82, _⟩ => ⟨S512x3x256, .f32⟩
  | .hbm, ⟨83, _⟩ => ⟨S_, .i32⟩
  | .hbm, ⟨84, _⟩ => ⟨S100000, .i32⟩
  | .hbm, ⟨85, _⟩ => ⟨S100000, .i1⟩
  | .hbm, ⟨86, _⟩ => ⟨S_, .i32⟩
  | .hbm, ⟨87, _⟩ => ⟨S100000, .i32⟩
  | .hbm, ⟨88, _⟩ => ⟨S100000, .i32⟩
  | .hbm, ⟨89, _⟩ => ⟨S100000, .i32⟩
  | .hbm, ⟨90, _⟩ => ⟨S_, .i32⟩
  | .hbm, ⟨91, _⟩ => ⟨S100000, .i32⟩
  | .hbm, ⟨92, _⟩ => ⟨S100000, .i1⟩
  | .hbm, ⟨93, _⟩ => ⟨S_, .i32⟩
  | .hbm, ⟨94, _⟩ => ⟨S100000, .i32⟩
  | .hbm, ⟨95, _⟩ => ⟨S100000, .i32⟩
  | .hbm, ⟨96, _⟩ => ⟨S100000, .i32⟩
  | .hbm, ⟨97, _⟩ => ⟨S100000x1, .i32⟩
  | .hbm, ⟨98, _⟩ => ⟨S100000x1, .i32⟩
  | .hbm, ⟨99, _⟩ => ⟨S100000x2, .i32⟩
  | .hbm, ⟨100, _⟩ => ⟨S512x3x256, .f32⟩
  | .hbm, ⟨101, _⟩ => ⟨S512x768, .f32⟩
  | .hbm, ⟨102, _⟩ => ⟨S512x1280, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_c_0 : Ref sig .tc := ⟨.hbm, 4, rfl⟩
abbrev main_call0_v0 : Ref sig .tc := ⟨.hbm, 5, rfl⟩
abbrev main_call0_v1 : Ref sig .tc := ⟨.hbm, 6, rfl⟩
abbrev main_v1 : Ref sig .tc := ⟨.hbm, 7, rfl⟩
abbrev main_c_1 : Ref sig .tc := ⟨.hbm, 8, rfl⟩
abbrev main_v2 : Ref sig .tc := ⟨.hbm, 9, rfl⟩
abbrev main_v3 : Ref sig .tc := ⟨.hbm, 10, rfl⟩
abbrev main_c_2 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_3 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_call1_v0 : Ref sig .tc := ⟨.hbm, 33, rfl⟩
abbrev main_call1_v1_0 : Ref sig .tc := ⟨.hbm, 34, rfl⟩
abbrev main_call1_v1_1 : Ref sig .tc := ⟨.hbm, 35, rfl⟩
abbrev main_v22 : Ref sig .tc := ⟨.hbm, 36, rfl⟩
abbrev main_c_5 : Ref sig .tc := ⟨.hbm, 37, rfl⟩
abbrev main_v23 : Ref sig .tc := ⟨.hbm, 38, rfl⟩
abbrev main_v24 : Ref sig .tc := ⟨.hbm, 39, rfl⟩
abbrev main_c_6 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_7 : Ref sig .tc := ⟨.hbm, 46, rfl⟩
abbrev main_v30 : Ref sig .tc := ⟨.hbm, 47, rfl⟩
abbrev main_v31 : Ref sig .tc := ⟨.hbm, 48, rfl⟩
abbrev main_c_8 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_call2_call0_c : Ref sig .tc := ⟨.hbm, 55, rfl⟩
abbrev main_call2_call0_v0 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_c_9 : Ref sig .tc := ⟨.hbm, 60, rfl⟩
abbrev main_v40 : Ref sig .tc := ⟨.hbm, 61, rfl⟩
abbrev main_v41 : Ref sig .tc := ⟨.hbm, 62, rfl⟩
abbrev main_c_10 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_c_11 : Ref sig .tc := ⟨.hbm, 70, rfl⟩
abbrev main_v48 : Ref sig .tc := ⟨.hbm, 71, rfl⟩
abbrev main_v49 : Ref sig .tc := ⟨.hbm, 72, rfl⟩
abbrev main_c_12 : Ref sig .tc := ⟨.hbm, 73, rfl⟩
abbrev main_call3_v0 : Ref sig .tc := ⟨.hbm, 74, rfl⟩
abbrev main_call3_v1 : Ref sig .tc := ⟨.hbm, 75, rfl⟩
abbrev main_v50 : Ref sig .tc := ⟨.hbm, 76, rfl⟩
abbrev main_c_13 : Ref sig .tc := ⟨.hbm, 77, rfl⟩
abbrev main_call4_v0 : Ref sig .tc := ⟨.hbm, 78, rfl⟩
abbrev main_call4_v1 : Ref sig .tc := ⟨.hbm, 79, rfl⟩
abbrev main_v51 : Ref sig .tc := ⟨.hbm, 80, rfl⟩
abbrev main_cst_14 : Ref sig .tc := ⟨.hbm, 81, rfl⟩
abbrev main_v52 : Ref sig .tc := ⟨.hbm, 82, rfl⟩
abbrev main_c_15 : Ref sig .tc := ⟨.hbm, 83, rfl⟩
abbrev main_v53 : Ref sig .tc := ⟨.hbm, 84, rfl⟩
abbrev main_v54 : Ref sig .tc := ⟨.hbm, 85, rfl⟩
abbrev main_c_16 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_c_17 : Ref sig .tc := ⟨.hbm, 90, rfl⟩
abbrev main_v58 : Ref sig .tc := ⟨.hbm, 91, rfl⟩
abbrev main_v59 : Ref sig .tc := ⟨.hbm, 92, rfl⟩
abbrev main_c_18 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩

abbrev nD : Nat := 1
abbrev τ : Topo := Topo.v7x

variable {F : FTy → Type} [FloatOps F]
-- ==== Proof.Batch.lean ====
/- The order of the segment numbers: what the precondition says of them, as a statement about numbers. -/
module

public import proofs.«01_k».proof.Defs
public import proofs.«01_k».proof.Proof.Gen.Pre_ordered
public import Idealize.ShloMosaic.Lib.ReduceAll
public import Idealize.ShloMosaic.Lib.StableHlo.Predicate
public import Idealize.ShloMosaic.Lib.ValueIdx
public import Idealize.ShloMosaic.Lib.WordCmp

@[expose] public section

noncomputable section

namespace Pool

open Idealize.ShloMosaic Idealize.ShloMosaic.ValueIdx

/-- The segment number of row `i`. -/
abbrev segOf (b : (⟨1, ![100000]⟩ : Shape).Idx → BitVec 32) (i : Fin 100000) : ℕ := (b (ix1 i)).toNat

/-- The segment numbers are below 512 and do not decrease along the rows. -/
structure Ordered (b : (⟨1, ![100000]⟩ : Shape).Idx → BitVec 32) : Prop where
  lt : ∀ i, segOf b i < 512
  mono : ∀ i j, i ≤ j → segOf b i ≤ segOf b j

instance : Subsingleton Cert.Pre_ordered.S_.Idx := ⟨fun a b => funext fun d => d.elim0⟩

/-- A sequence of numbers that does not decrease from a place to the next does not decrease. -/
theorem mono_of_step {n : ℕ} (f : Fin n → ℕ) (h : ∀ k (hk : k + 1 < n), f ⟨k, by omega⟩ ≤ f ⟨k + 1, hk⟩) :
    ∀ i j, i ≤ j → f i ≤ f j := by
  intro i j hij
  obtain ⟨j, hj⟩ := j
  induction j with
  | zero => have : i = ⟨0, hj⟩ := by ext; have : i.val ≤ 0 := hij; simpa using this
            rw [this]
  | succ k ih =>
    by_cases e : i = ⟨k + 1, hj⟩
    · rw [e]
    · have hik : i.val ≤ k := by
        have h1 : i.val ≤ k + 1 := hij
        have h2 : i.val ≠ k + 1 := fun h => e (Fin.ext h)
        omega
      exact (ih (by omega) hik).trans (h k hj)

/-- A word at least 0 and below 512 in the signed order is below 512. -/
theorem lt_of_cmpi {v : BitVec 32} (h0 : IntOp.cmpi .sge v 0#32 = 1#1) (h1 : IntOp.cmpi .slt v 512#32 = 1#1) : v.toNat < 512 := by
  simp only [IntOp.cmpi, StableHlo.Predicate.ofBool_eq_one_iff, BitVec.sle, BitVec.slt, decide_eq_true_eq,
    BitVec.toInt_eq_toNat_cond, BitVec.toNat_ofNat] at h0 h1
  have := v.isLt
  split at h0 <;> simp_all <;> omega

/-- A slice of a vector read at a place. -/
theorem slice_at {n t o : ℕ} {α : Type} (h : (⟨1, ![n]⟩ : Shape).Slices ![o] ⟨1, ![t]⟩) (b : (⟨1, ![n]⟩ : Shape).Idx → α) (k : Fin t)
    (hk : o + k.val < n) : extractStridedSlice ⟨1, ![t]⟩ ![o] b h (ix1 k) = b (ix1 ⟨o + k.val, hk⟩) :=
  congrArg b (funext fun d => match d with | ⟨0, _⟩ => rfl)

/-- What the precondition says: the segment numbers are ordered. -/
theorem ordered_of_pre {F : FTy → Type} [FloatOps F] (x : FVec F Cert.Pre_ordered.S100000x256 .f32) (b : IVec Cert.Pre_ordered.S100000 32)
    (h : Cert.Pre_ordered.fn x b = fun _ => 1#1) : Ordered b := by
  have h0 := congrFun h ix0
  unfold Cert.Pre_ordered.fn at h0
  dsimp only at h0
  have hand : ∀ a c : BitVec 1, IntOp.andi a c = 1#1 → a = 1#1 ∧ c = 1#1 := by decide
  obtain ⟨hr, hs⟩ := hand _ _ h0
  have hr' : ∀ i : Fin 100000, segOf b i < 512 := fun i => by
    have h1 := hand _ _ (Host.reduce_andi_all _ _ _ _ _ hr (ix1 i))
    exact lt_of_cmpi h1.1 h1.2
  refine ⟨hr', mono_of_step _ fun k hk => ?_⟩
  have h1 := Host.reduce_andi_all _ _ _ _ _ hs (ix1 ⟨k, by omega⟩)
  have e0 := slice_at Cert.Pre_ordered.Facts.slices_S100000_S99999_0 b ⟨k, by omega⟩ (show 0 + k < 100000 by omega)
  have e1 := slice_at Cert.Pre_ordered.Facts.slices_S100000_S99999_1 b ⟨k, by omega⟩ (show 1 + k < 100000 by omega)
  have f0 : (⟨0 + k, by omega⟩ : Fin 100000) = ⟨k, by omega⟩ := Fin.ext (by simp)
  have f1 : (⟨1 + k, by omega⟩ : Fin 100000) = ⟨k + 1, hk⟩ := Fin.ext (by simp; omega)
  rw [f0] at e0
  rw [f1] at e1
  have h2 : IntOp.cmpi .sle (b (ix1 ⟨k, by omega⟩)) (b (ix1 ⟨k + 1, hk⟩)) = 1#1 := by
    rw [← e0, ← e1]; exact h1
  exact (StableHlo.Predicate.sle_iff_toNat (lt_trans (hr' ⟨k, by omega⟩) (by norm_num)) (lt_trans (hr' ⟨k + 1, hk⟩) (by norm_num))).1 h2

end Pool

end
-- ==== Proof.Words.lean ====
/- The padded segment numbers and the two tables of windows, as functions of the segment numbers. -/
module

public import proofs.«01_k».proof.Proof.Batch
public import Idealize.ShloMosaic.Lib.Pipeline.Value

@[expose] public section

noncomputable section

namespace Pool

open Idealize.ShloMosaic Idealize.ShloMosaic.ValueIdx

abbrev S0 : Shape := ⟨0, ![]⟩
abbrev Sg : Shape := ⟨1, ![49]⟩
abbrev Sn : Shape := ⟨1, ![100000]⟩
abbrev Sp : Shape := ⟨1, ![100352]⟩
abbrev Sb : Shape := ⟨3, ![49, 1, 2048]⟩
abbrev Sc : Shape := ⟨3, ![49, 1, 1]⟩

/-- The segment numbers, 352 numbers 512 after them, cut into 49 blocks of 2048. -/
def padded (b : IVec Sn 32) (h1 : Sn.Pads ![0] ![352] ![0] Sp) (h2 : 0 < S0.numel) (h3 : Sp.ShapeCasts Sb) : IVec Sb 32 :=
  shapeCast Sb (pad Sp ![0] ![352] ![0] b (constantI S0 32 512#32) h1 h2) h3

/-- Rounding-down division of words by 32, as the host does it: the truncating quotient, less one where the signs differ and the
    remainder is not zero. -/
def fdiv (v : IVec Sg 32) (hb : S0.BroadcastsInDim Sg ![]) : IVec Sg 32 :=
  select (andi (cmpi .ne (signi v) (broadcastInDim Sg ![] hb (signi (constantI S0 32 32#32))))
      (cmpi .ne (Host.remsi v (broadcastInDim Sg ![] hb (constantI S0 32 32#32))) (broadcastInDim Sg ![] hb (constantI S0 32 0#32))))
    (subi (Host.divsi v (broadcastInDim Sg ![] hb (constantI S0 32 32#32))) (broadcastInDim Sg ![] hb (constantI S0 32 1#32)))
    (Host.divsi v (broadcastInDim Sg ![] hb (constantI S0 32 32#32)))

/-- The segment number of row `i`, and 512 past the last row. -/
def segPad (b : IVec Sn 32) (i : ℕ) : ℕ := if h : i < 100000 then segOf b ⟨i, h⟩ else 512

theorem segPad_le {b : IVec Sn 32} (hb : Ordered b) (i : ℕ) : segPad b i ≤ 512 := by
  unfold segPad; split
  · exact (hb.lt _).le
  · exact le_rfl

theorem segPad_mono {b : IVec Sn 32} (hb : Ordered b) {i j : ℕ} (hij : i ≤ j) : segPad b i ≤ segPad b j := by
  by_cases hj : j < 100000
  · have hi : i < 100000 := hij.trans_lt hj
    simp only [segPad, dif_pos hi, dif_pos hj]
    exact hb.mono _ _ hij
  · rw [show segPad b j = 512 from dif_neg hj]
    exact segPad_le hb i

/-- The padded numbers read at place `r` of block `g`. -/
theorem padded_at (b : IVec Sn 32) (h1 h2 h3) (g : Fin 49) (r : Fin 2048) :
    padded b h1 h2 h3 (ix3 g 0 r) = BitVec.ofNat 32 (segPad b (2048 * g.val + r.val)) := by
  have hk : 2048 * g.val + r.val < 100352 := by have := g.isLt; have := r.isLt; omega
  unfold padded
  rw [shapeCast_apply _ h3 (ix3 g 0 r) (ix1 ⟨2048 * g.val + r.val, hk⟩)
    (by rw [Shape.rowMajor_val_one, Shape.rowMajor_val_three]; simp [ix1, ix3]; omega)]
  unfold pad segPad
  by_cases h : 2048 * g.val + r.val < 100000
  · rw [dif_pos h, dif_pos (by intro a; match a with | ⟨0, _⟩ => exact ⟨Nat.zero_le _, by simp [Nat.mod_one], by simpa [ix1] using h⟩)]
    rw [segOf, BitVec.ofNat_toNat, BitVec.setWidth_eq]
    exact congrArg b (funext fun a => match a with | ⟨0, _⟩ => Fin.ext (by simp [ix1]))
  · rw [dif_neg h, dif_neg (by intro hh; exact h (by simpa [ix1] using (hh ⟨0, by decide⟩).2.2))]
    rfl

/-- The sign of a word. -/
def signWord (v : BitVec 32) : BitVec 32 := if v = 0 then 0 else if v.msb then -1 else 1

/-- Rounding-down division by 32 of one word, as the host does it. -/
def fdivWord (v : BitVec 32) : BitVec 32 :=
  if (IntOp.andi (IntOp.cmpi .ne (signWord v) (signWord 32#32)) (IntOp.cmpi .ne (IntOp.remsi .host v 32#32) 0#32)) = 1#1
  then IntOp.subi (IntOp.divsi .host v 32#32) 1#32 else IntOp.divsi .host v 32#32

theorem fdiv_apply (v : IVec Sg 32) (hb) (g : Sg.Idx) : fdiv v hb g = fdivWord (v g) := rfl

theorem fdivWord_le : ∀ v : Fin 513, fdivWord (BitVec.ofNat 32 v.val) = BitVec.ofNat 32 (v.val / 32) := by decide +kernel

theorem minsi_le : ∀ v : Fin 513, IntOp.minsi (BitVec.ofNat 32 v.val) 511#32 = BitVec.ofNat 32 (min v.val 511) := by decide +kernel

/-- The first window of block `g`. -/
def win0 (b : IVec Sn 32) (g : ℕ) : ℕ := segPad b (2048 * g) / 32

/-- The last window of block `g`. -/
def win1 (b : IVec Sn 32) (g : ℕ) : ℕ := min (segPad b (2048 * g + 2047)) 511 / 32

/-- The table of first windows. -/
def table0 (b : IVec Sn 32) (h1 : Sn.Pads ![0] ![352] ![0] Sp) (h2 : 0 < S0.numel) (h3 : Sp.ShapeCasts Sb) (hs : Sb.Slices ![0, 0, 0] Sc)
    (hc : Sc.ShapeCasts Sg) (hb : S0.BroadcastsInDim Sg ![]) : IVec Sg 32 :=
  fdiv (shapeCast Sg (extractStridedSlice Sc ![0, 0, 0] (padded b h1 h2 h3) hs) hc) hb

/-- The table of last windows. -/
def table1 (b : IVec Sn 32) (h1 : Sn.Pads ![0] ![352] ![0] Sp) (h2 : 0 < S0.numel) (h3 : Sp.ShapeCasts Sb) (hs : Sb.Slices ![0, 0, 2047] Sc)
    (hc : Sc.ShapeCasts Sg) (hb : S0.BroadcastsInDim Sg ![]) : IVec Sg 32 :=
  fdiv (minsi (shapeCast Sg (extractStridedSlice Sc ![0, 0, 2047] (padded b h1 h2 h3) hs) hc)
    (broadcastInDim Sg ![] hb (constantI S0 32 511#32))) hb

/-- One column of the blocks, read as a vector, at block `g`. -/
theorem column_at (z : IVec Sb 32) (o : ℕ) (ho : o < 2048) (hs : Sb.Slices ![0, 0, o] Sc) (hc : Sc.ShapeCasts Sg) (g : Fin 49) :
    shapeCast Sg (extractStridedSlice Sc ![0, 0, o] z hs) hc (ix1 g) = z (ix3 g 0 ⟨o, ho⟩) := by
  rw [shapeCast_apply _ hc (ix1 g) (ix3 g 0 0) (by rw [Shape.rowMajor_val_one, Shape.rowMajor_val_three]; simp [ix1, ix3])]
  refine congrArg z (funext fun a => match a with | ⟨0, _⟩ => Fin.ext ?_ | ⟨1, _⟩ => Fin.ext ?_ | ⟨2, _⟩ => Fin.ext ?_) <;> simp [ix3]

theorem table0_at {b : IVec Sn 32} (ord : Ordered b) (h1 h2 h3 hs hc hb) (g : Fin 49) :
    table0 b h1 h2 h3 hs hc hb (ix1 g) = BitVec.ofNat 32 (win0 b g.val) := by
  unfold table0
  rw [fdiv_apply, column_at _ 0 (by norm_num), padded_at]
  exact fdivWord_le ⟨segPad b (2048 * g.val), Nat.lt_succ_of_le (segPad_le ord _)⟩

theorem table1_at {b : IVec Sn 32} (ord : Ordered b) (h1 h2 h3 hs hc hb) (g : Fin 49) :
    table1 b h1 h2 h3 hs hc hb (ix1 g) = BitVec.ofNat 32 (win1 b g.val) := by
  unfold table1
  rw [fdiv_apply]
  change fdivWord (IntOp.minsi (shapeCast Sg (extractStridedSlice Sc ![0, 0, 2047] (padded b h1 h2 h3) hs) hc (ix1 g)) 511#32) = _
  rw [column_at _ 2047 (by norm_num), padded_at]
  rw [minsi_le ⟨segPad b (2048 * g.val + 2047), Nat.lt_succ_of_le (segPad_le ord _)⟩]
  exact fdivWord_le ⟨min (segPad b (2048 * g.val + 2047)) 511, by omega⟩

/-- The first window is not past the last, and the last is below 16. -/
theorem win_le {b : IVec Sn 32} (ord : Ordered b) (g : Fin 49) : win0 b g.val ≤ win1 b g.val ∧ win1 b g.val < 16 := by
  have h1 := segPad_mono ord (i := 2048 * g.val) (j := 2048 * g.val + 2047) (by omega)
  have h2 : segPad b (2048 * g.val) < 512 := by
    unfold segPad
    rw [dif_pos (by have := g.isLt; omega)]
    exact ord.lt _
  unfold win0 win1
  constructor
  · exact Nat.div_le_div_right (by omega)
  · omega

end Pool

end
-- ==== Proof.Entry.lean ====
/- The contents of the buffers when the kernel region is entered: the padded segment numbers in blocks, and the two
   tables of windows. -/
module

public import proofs.«01_k».proof.Proof.Words
public import proofs.«01_k».proof.Proof.Gen.KernelIdeal.Launch
public import Idealize.ShloMosaic.Lib.Pipeline.Frame
public import Idealize.ShloMosaic.Lib.Tactic

@[expose] public section

noncomputable section

namespace Cert.KernelIdeal.Pool

open Idealize.ShloMosaic Idealize.ShloMosaic.TcCoe Idealize.ShloMosaic.Tactic Idealize.ShloMosaic.ValueIdx
open Cert.KernelIdeal Cert.KernelIdeal.Gen

variable {F : FTy → Type} [FloatOps F]
variable (m : (ℓ : Loc nD τ sig) → Buf (Elt F) ℓ)

/-- Core `c`'s buffers when the region is entered: after the host operations. -/
abbrev V (c : Dev nD) (b : Ref sig .tc) : Buf (Elt F) ((c : Thread nD τ).loc b) :=
  StableHlo.after (List.flatten [hostOps0, hostOps0_1, hostOps0_2, hostOps0_3, hostOps0_4, hostOps0_5]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor

/-- The program up to the region: the host operations, then the region at the contents they leave. -/
theorem hmain : Pipeline.HMainP (Ix := Unit) (Name := ℕ) (U := UR sig nD τ) (Lvl := ℕ) pcfgs 0 defs₀ Variants.none m (main (F := F)) (V m) :=
  Pipeline.hmainP_prefixes pcfgs 0 defs₀ Variants.none m main [hostOps0, hostOps0_1, hostOps0_2, hostOps0_3, hostOps0_4, hostOps0_5]
    (by simp only [List.Forall]; exact ⟨hostOps0_sub, hostOps0_1_sub, hostOps0_2_sub, hostOps0_3_sub, hostOps0_4_sub, hostOps0_5_sub⟩)
    (by simp only [List.Forall]; exact ⟨hostOps0_fresh, hostOps0_1_fresh, hostOps0_2_fresh, hostOps0_3_fresh, hostOps0_4_fresh, hostOps0_5_fresh⟩)
    main_chain

/-- The tables' contents when the region is entered. -/
def tbl : pre0.Contents (Elt F) := fun k => V m (0 : Dev nD) (pre0.ref k)

theorem V_pre (c : Dev nD) (k : Fin 2) : V m c (pre0.ref k) = tbl m k := by
  obtain rfl : c = 0 := Subsingleton.elim _ _; rfl

/-- The tables as admissible contents. -/
abbrev adm : (pcfg0 (F := F)).Adm := ⟨tbl m, trivial⟩

/-- The rows are as launched. -/
theorem V_arg0 (c : Dev nD) : V m c main_arg0 = m ((c : Thread nD τ).loc main_arg0) := by
  simp only [V, List.flatten_cons, List.flatten_nil, List.append_nil, List.cons_append, List.nil_append]
  after_results
/-- The segment numbers are as launched. -/
theorem V_arg1 (c : Dev nD) : V m c main_arg1 = m ((c : Thread nD τ).loc main_arg1) := by
  simp only [V, List.flatten_cons, List.flatten_nil, List.append_nil, List.cons_append, List.nil_append]
  after_results

/-- The padded segment numbers, when the region is entered. -/
theorem V_v1 (c : Dev nD) : V m c main_v1 =
    Pool.padded (m ((c : Thread nD τ).loc main_arg1)) pads_S100000_S100352_03520 h_S_ shapeCasts_S100352_S49x1x2048 := by
  simp only [V, List.flatten_cons, List.flatten_nil, List.append_nil, List.cons_append, List.nil_append]
  after_results
  rfl

/-- The table of first windows, when the region is entered. -/
theorem V_v4 (c : Dev nD) : V m c main_v4 =
    Pool.table0 (m ((c : Thread nD τ).loc main_arg1)) pads_S100000_S100352_03520 h_S_ shapeCasts_S100352_S49x1x2048
      slices_S49x1x2048_S49x1x1_0_0_0 shapeCasts_S49x1x1_S49 bcast_S_S49 := by
  simp only [V, List.flatten_cons, List.flatten_nil, List.append_nil, List.cons_append, List.nil_append]
  after_results
  simp only [StableHlo.TRef.ofBuf_toBuf]
  rfl

set_option maxHeartbeats 2000000 in
/-- The table of last windows, when the region is entered. -/
theorem V_v9 (c : Dev nD) : V m c main_v9 =
    Pool.table1 (m ((c : Thread nD τ).loc main_arg1)) pads_S100000_S100352_03520 h_S_ shapeCasts_S100352_S49x1x2048
      slices_S49x1x2048_S49x1x1_0_0_2047 shapeCasts_S49x1x1_S49 bcast_S_S49 := by
  simp only [V, List.flatten_cons, List.flatten_nil, List.append_nil, List.cons_append, List.nil_append]
  after_results
  simp only [StableHlo.TRef.ofBuf_toBuf]
  rfl

/-- The words of the tables read in the body are admissible where they name an interval of windows. -/
theorem chk_le : ∀ a c : Fin 16, a ≤ c → k0_chk1 (BitVec.ofNat 32 a.val) (BitVec.ofNat 32 c.val) := by decide +kernel

variable (ord : ∀ c : Dev nD, Pool.Ordered (m ((c : Thread nD τ).loc main_arg1)))

/-- The segment numbers the launch is made with. -/
abbrev seg : IVec Pool.Sn 32 := m (((0 : Dev nD) : Thread nD τ).loc main_arg1)

include ord in
theorem tbl0_at (g : Fin 49) : (tbl m 0 : IVec S49 32) (ix1 g) = BitVec.ofNat 32 (Pool.win0 (seg m) g.val) := by
  change V m 0 main_v4 (ix1 g) = _
  rw [V_v4]; exact Pool.table0_at (ord 0) _ _ _ _ _ _ g

include ord in
theorem tbl1_at (g : Fin 49) : (tbl m 1 : IVec S49 32) (ix1 g) = BitVec.ofNat 32 (Pool.win1 (seg m) g.val) := by
  change V m 0 main_v9 (ix1 g) = _
  rw [V_v9]; exact Pool.table1_at (ord 0) _ _ _ _ _ _ g

include ord in
/-- The words the body reads at block `g` are admissible. -/
theorem chk_tbl (g : Fin 49) : k0_chk1 ((tbl m 0 : IVec S49 32) (ix1 g)) ((tbl m 1 : IVec S49 32) (ix1 g)) := by
  rw [tbl0_at m ord, tbl1_at m ord]
  have h := Pool.win_le (ord 0) g
  exact chk_le ⟨_, lt_of_le_of_lt h.1 h.2⟩ ⟨_, h.2⟩ h.1

end Cert.KernelIdeal.Pool

end
-- ==== Proof.Run.lean ====
/- A run of the body at a point of the grid: it leaves the tables, the rows and the segment numbers as they are. -/
module

public import proofs.«01_k».proof.Proof.Gen.KernelIdeal.Loops
public import Idealize.ShloMosaic.Lib.Tactic

@[expose] public section

noncomputable section

namespace Cert.KernelIdeal.Pool

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

/-- The word of a table read at a point. -/
abbrev wordAt (i : grid0.Coords) (arg : Memref sig .tc .smem S49 .i32) (f : BufTy.Contents (Elt F) arg.view.ty) : BitVec 32 :=
  View.readAt (Elt F) arg.view (Rect.unit (s := S49) (k0_off2 i) S1.size (k0_off2_inb i)).toLoadRect f
    (Shape.Idx.first (s := S1) (by decide))

/-- The body at a point, from any contents of its operands: it ends, the tables, the rows and the segment numbers as they were. -/
theorem run_some (c : Dev nD) (E : Set ℕ) (i : grid0.Coords)
    (arg1 : Memref sig .tc .smem S49 .i32) (harg1 : arg1.IsWhole) (arg2 : Memref sig .tc .smem S49 .i32) (harg2 : arg2.IsWhole)
    (arg3 : Memref sig .tc .vmem S2048x256 .f32) (harg3 : arg3.IsWhole) (arg4 : Memref sig .tc .vmem S49x1x2048 .i32) (harg4 : arg4.IsWhole)
    (arg5 : Memref sig .tc .vmem S512x1280 .f32) (harg5 : arg5.IsWhole) (arg6 : Memref sig .tc .vmem S512x128 .f32) (harg6 : arg6.IsWhole)
    (arg7 : Memref sig .tc .vmem S512x128 .f32) (harg7 : arg7.IsWhole) (q1 q2 : PosShare TreeShare)
    (f1 : BufTy.Contents (Elt F) arg1.view.ty) (f2 : BufTy.Contents (Elt F) arg2.view.ty) (f3 : BufTy.Contents (Elt F) arg3.view.ty)
    (f4 : BufTy.Contents (Elt F) arg4.view.ty) (f5 : BufTy.Contents (Elt F) arg5.view.ty) (f6 : BufTy.Contents (Elt F) arg6.view.ty)
    (f7 : BufTy.Contents (Elt F) arg7.view.ty) (hchk : k0_chk1 (wordAt i arg1 f1) (wordAt i arg2 f2)) :
    iprop((arg1.view.loc (c : Thread nD τ) ↦[arg1.view.set]{q1} f1) ∗ (arg2.view.loc (c : Thread nD τ) ↦[arg2.view.set]{q2} f2)
      ∗ (arg3.view.loc (c : Thread nD τ) ↦[arg3.view.set]{fullShare} f3) ∗ (arg4.view.loc (c : Thread nD τ) ↦[arg4.view.set]{fullShare} f4)
      ∗ (arg5.view.loc (c : Thread nD τ) ↦[arg5.view.set]{fullShare} f5) ∗ (arg6.view.loc (c : Thread nD τ) ↦[arg6.view.set]{fullShare} f6)
      ∗ (arg7.view.loc (c : Thread nD τ) ↦[arg7.view.set]{fullShare} f7))
    ⊢ wp frame (wpE (defs₀ (F := F)) Variants.none c none) E
      (cc0__pool_kernel i arg1 harg1 arg2 harg2 arg3 harg3 arg4 harg4 arg5 harg5 arg6 harg6 arg7 harg7) fun _ =>
      (iprop(∃ g5 g6 g7, (arg1.view.loc (c : Thread nD τ) ↦[arg1.view.set]{q1} f1) ∗ (arg2.view.loc (c : Thread nD τ) ↦[arg2.view.set]{q2} f2)
      ∗ (arg3.view.loc (c : Thread nD τ) ↦[arg3.view.set]{fullShare} f3) ∗ (arg4.view.loc (c : Thread nD τ) ↦[arg4.view.set]{fullShare} f4)
      ∗ (arg5.view.loc (c : Thread nD τ) ↦[arg5.view.set]{fullShare} g5) ∗ (arg6.view.loc (c : Thread nD τ) ↦[arg6.view.set]{fullShare} g6)
      ∗ (arg7.view.loc (c : Thread nD τ) ↦[arg7.view.set]{fullShare} g7)) : sProp 𝕄) := by
  simp only [cc0__pool_kernel_eq_skeleton]; unfold cc0__pool_kernel_skel
  simp only [k0_part17_eq_skeleton]
  by_cases hc1 : Scalar.cmpi .ne (Scalar.extui (Scalar.cmpi .eq (BitVec.ofNat 32 (i 0).val) 0#32)) 0#32 = 1#1 <;>
    by_cases hc2 : Scalar.cmpi .ne (Scalar.extui (Scalar.cmpi .eq (BitVec.ofNat 32 (i 0).val) 48#32)) 0#32 = 1#1
  all_goals
    iintro ⟨H1, H2, H3, H4, H5, H6, H7⟩
    sl_exec (disch := first | exact hc1 | exact hc2 | exact hchk)
    sl_step
    iexists _; iexists _; iexists _
    isplitl [H1]; · iexact H1
    isplitl [H2]; · iexact H2
    isplitl [H3]; · iexact H3
    isplitl [H4]; · iexact H4
    isplitl [H5]; · iexact H5
    isplitl [H6]; · iexact H6
    iexact H7

end Cert.KernelIdeal.Pool

end
-- ==== Proof.Frame.lean ====
/- The kernel's run, at any float values: it ends, and the rows and the segment numbers are as launched. -/
module

public import proofs.«01_k».proof.Proof.Entry
public import proofs.«01_k».proof.Proof.Run
public import Idealize.ShloMosaic.Lib.Pipeline.FrameBody

@[expose] public section

noncomputable section

namespace Cert.KernelIdeal.Pool

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligationLoose)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- The pipeline at the tables' contents. -/
abbrev cfgm : Cfg sig Λ₀ := cfg0 (adm m)

/-- The two tables' halves, table by table. -/
theorem PhiT_eq (c : Dev nD) : (Pipeline.ΦT pre0 (tbl m) c : sProp 𝕄) =
    iprop((((c : Thread nD τ).loc main_v4) ↦{fullShare.right} tbl m 0) ∗ (((c : Thread nD τ).loc main_v9) ↦{fullShare.right} tbl m 1)) := by
  unfold Pipeline.ΦT Pipeline.prefHeld
  rw [bigSep_univ_eq_bigSepL [(0 : Fin 2), (1 : Fin 2)] (by decide) (by decide)]
  rfl

/-- Window `w`'s block at point `t`, filled out with a fixed content past the array's end. -/
def blockFill (c : Dev nD) (w : Fin 3) (t : Fin (cfgm m).N) : ((cfgm m).win w).block.Idx → Elt F ((cfgm m).win w).elt :=
  ((cfgm m).win w).fill ((cfgm m).grid.coords t) (fun _ => Classical.arbitrary _) ((((cfgm m).win w).blk t).view.read (Elt F) (V m c (Pipeline.arrRef (cfgm m).spec w)))

/-- The data of the run that states nothing of the result: the inputs' blocks stay, nothing is owed. -/
def datF (_ : Fin 1) (c : Dev nD) : Dat τ (Elt F) Unit ℕ (UR sig nD τ) ℕ (cfgm m) c where
  A w := V m c (Pipeline.arrRef (cfgm m).spec w)
  after w t := blockFill m c w t
  Φ _ := iprop(Pipeline.ΦA spec0 c ∗ Pipeline.ΦT pre0 (tbl m) c)
  q _ := fullShare
  owed _ := 0

/-- Only the result's window is forgotten. -/
def fgt : Fin 3 → Bool := fun | 2 => true | _ => false

theorem before_0 (c : Dev nD) (t : Fin (cfgm m).N) (d) : (datF m 0 c).before (0 : Fin 3) t d = (datF m 0 c).fetched (0 : Fin 3) t d :=
  (datF m 0 c).before_in_eq_fetched (0 : Fin 3) rfl (fun _ => rfl) (fun t t' h => congrArg (fun ix a => Pipeline.Clip.of (ix a) (S2048x256.size a) (S100000x256.size a)) h)
    (fun t => Window.cut_fill _ _ _ _) t d

theorem before_1 (c : Dev nD) (t : Fin (cfgm m).N) (d) : (datF m 0 c).before (1 : Fin 3) t d = blockFill m c 1 t := by
  rw [(datF m 0 c).before_in_eq_fetched (1 : Fin 3) rfl (fun _ => rfl) (fun t t' h => rfl)
    (fun t => Window.cut_fill ((cfgm m).win (1 : Fin 3)) ((cfgm m).grid.coords t) (fun _ => Classical.arbitrary _) _) t d]
  exact Pipeline.fill_of_clip_none (cfg := cfgm m) (1 : Fin 3) _ (fun _ => rfl) _ _ _

/-- The body at a point of the pipeline, on its staging buffers, the tables and the scratch buffers. -/
theorem run_point (c : Dev nD) (t : Fin (cfgm m).N) (s : (w : Fin 3) → Fin (spec0 w).nbuf)
    (hchk : k0_chk1 (wordAt (grid0.coords t) (Memref.whole main_v4) (tbl m 0)) (wordAt (grid0.coords t) (Memref.whole main_v9) (tbl m 1)))
    (f3 : BufTy.Contents (Elt F) (stage0_0 (s 0)).view.ty) (f4 : BufTy.Contents (Elt F) (stage0_1 (s 1)).view.ty)
    (f5 : BufTy.Contents (Elt F) (stage0_2 (s 2)).view.ty) (f6 : Buf (Elt F) ((c : Thread nD τ).loc cc0_scratch0))
    (f7 : Buf (Elt F) ((c : Thread nD τ).loc cc0_scratch1)) :
    iprop((((c : Thread nD τ).loc main_v4) ↦{fullShare.right} tbl m 0) ∗ (((c : Thread nD τ).loc main_v9) ↦{fullShare.right} tbl m 1)
      ∗ ((stage0_0 (s 0)).view.loc (c : Thread nD τ) ↦[(stage0_0 (s 0)).view.set]{fullShare} f3)
      ∗ ((stage0_1 (s 1)).view.loc (c : Thread nD τ) ↦[(stage0_1 (s 1)).view.set]{fullShare} f4)
      ∗ ((stage0_2 (s 2)).view.loc (c : Thread nD τ) ↦[(stage0_2 (s 2)).view.set]{fullShare} f5)
      ∗ (((c : Thread nD τ).loc cc0_scratch0) ↦{fullShare} f6) ∗ (((c : Thread nD τ).loc cc0_scratch1) ↦{fullShare} f7))
    ⊢ wp frame (wpE (defs₀ (F := F)) Variants.none c none) Set.univ (defs₀ (F := F) .tc 0 (t, s)) fun _ =>
      (iprop(∃ g5 g6 g7, (((c : Thread nD τ).loc main_v4) ↦{fullShare.right} tbl m 0) ∗ (((c : Thread nD τ).loc main_v9) ↦{fullShare.right} tbl m 1)
      ∗ ((stage0_0 (s 0)).view.loc (c : Thread nD τ) ↦[(stage0_0 (s 0)).view.set]{fullShare} f3)
      ∗ ((stage0_1 (s 1)).view.loc (c : Thread nD τ) ↦[(stage0_1 (s 1)).view.set]{fullShare} f4)
      ∗ ((stage0_2 (s 2)).view.loc (c : Thread nD τ) ↦[(stage0_2 (s 2)).view.set]{fullShare} g5)
      ∗ (((c : Thread nD τ).loc cc0_scratch0) ↦{fullShare} g6) ∗ (((c : Thread nD τ).loc cc0_scratch1) ↦{fullShare} g7)) : sProp 𝕄) := by
  have h := run_some (F := F) c Set.univ (grid0.coords t) (Memref.whole main_v4) (Memref.isWhole_whole _) (Memref.whole main_v9) (Memref.isWhole_whole _)
    (stage0_0 (s 0)) (hstage0_0 ((s 0).cast nbuf0_0)) (stage0_1 (s 1)) (hstage0_1 ((s 1).cast nbuf0_1)) (stage0_2 (s 2)) (hstage0_2 ((s 2).cast nbuf0_2))
    (Memref.whole cc0_scratch0) (Memref.isWhole_whole _) (Memref.whole cc0_scratch1) (Memref.isWhole_whole _) fullShare.right fullShare.right
    (tbl m 0) (tbl m 1) f3 f4 f5 f6 f7 hchk
  simp only [Memref.whole, View.set_whole] at h
  exact h

/-- The body's obligation at every point. -/
theorem body_obligation (hchk : ∀ t : Fin (cfgm m).N, k0_chk1 (wordAt (grid0.coords t) (Memref.whole main_v4) (tbl m 0)) (wordAt (grid0.coords t) (Memref.whole main_v9) (tbl m 1)))
    (c : Dev nD) : BodyObligationLoose (datF m 0 c) (defs₀ (F := F)) Variants.none () Set.univ fgt := fun t => by
  rw [bigSep_W0, bigSep_W0]
  simp only [fgt]
  rw [show (datF m 0 c).Φ t.succ = iprop(Pipeline.ΦA spec0 c ∗ Pipeline.ΦT pre0 (tbl m) c) from rfl,
    show (datF m 0 c).Φ t.castSucc = iprop(Pipeline.ΦA spec0 c ∗ Pipeline.ΦT pre0 (tbl m) c) from rfl,
    show (datF m 0 c).owesAt () t.succ = (datF m 0 c).owesAt () t.castSucc from rfl, PhiT_eq]
  unfold Pipeline.ΦA
  rw [scopedRest0_eq]
  iintro ⟨⟨⟨⟨⟨%g6, H6⟩, ⟨%g7, H7⟩⟩, Hr⟩, ⟨H1, H2⟩⟩, Ho, ⟨%d0, H3⟩, ⟨%d1, H4⟩, ⟨%X, H5⟩⟩
  rw [before_0 m c t d0, before_1 m c t d1]
  unfold owns
  icases H3 with ⟨%f3, %e3, H3⟩
  icases H4 with ⟨%f4, %e4, H4⟩
  icases H5 with ⟨%f5, %e5, H5⟩
  iapply (wp_wand_r frame (wpE (defs₀ (F := F)) Variants.none c none) Set.univ)
  isplitl [H1 H2 H3 H4 H5 H6 H7]
  · iapply (run_point m c t ((cfgm m).slots t) (hchk t) f3 f4 f5 g6 g7)
    isplitl [H1]; · iexact H1
    isplitl [H2]; · iexact H2
    isplitl [H3]; · iexact H3
    isplitl [H4]; · iexact H4
    isplitl [H5]; · iexact H5
    isplitl [H6]; · iexact H6
    iexact H7
  iintro %u ⟨%h5, %h6, %h7, H1, H2, H3, H4, H5, H6, H7⟩
  isplitl [Hr H1 H2 H6 H7]
  · isplitl [H6 H7 Hr]
    · isplitl [H6 H7]
      · isplitl [H6]
        · iexists h6; iexact H6
        · iexists h7; iexact H7
      · iexact Hr
    · isplitl [H1]; · iexact H1
      iexact H2
  isplitl [Ho]; · iexact Ho
  isplitl [H3]
  · iexists d0; iexists f3
    isplitr [H3]
    · ipureintro
      rw [e3]
      exact congrArg (((cfgm m).win (0 : Fin 3)).fill ((cfgm m).grid.coords t) d0) (Window.cut_fill ((cfgm m).win (0 : Fin 3)) _ _ _).symm
    · iexact H3
  isplitl [H4]
  · iexists f4
    isplitr [H4]
    · ipureintro; exact e4
    · iexact H4
  · iexists _; iexists h5
    isplitr [H5]
    · ipureintro; rfl
    · iexact H5

/-- The word of the first table read at a point is the table's entry there; -/
theorem wordAt_v4 (i : grid0.Coords) (f : IVec S49 32) : wordAt (F := F) i (Memref.whole main_v4) f = f (ValueIdx.ix1 (i 0)) := by
  refine congrArg f (funext fun a => match a with | ⟨0, _⟩ => Fin.ext ?_)
  have hi : (i 0).val < 49 := (i 0).isLt
  change (BitVec.ofNat 32 (i 0).val).toNat + 1 * 0 = (i 0).val
  rw [BitVec.toNat_ofNat]; omega

/-- and of the second. -/
theorem wordAt_v9 (i : grid0.Coords) (f : IVec S49 32) : wordAt (F := F) i (Memref.whole main_v9) f = f (ValueIdx.ix1 (i 0)) := by
  refine congrArg f (funext fun a => match a with | ⟨0, _⟩ => Fin.ext ?_)
  have hi : (i 0).val < 49 := (i 0).isLt
  change (BitVec.ofNat 32 (i 0).val).toNat + 1 * 0 = (i 0).val
  rw [BitVec.toNat_ofNat]; omega

/-- The words the body reads are admissible. -/
theorem chk_words (ord : ∀ c : Dev nD, Pool.Ordered (m ((c : Thread nD τ).loc main_arg1))) (i : grid0.Coords) :
    k0_chk1 (wordAt i (Memref.whole main_v4) (tbl m 0)) (wordAt i (Memref.whole main_v9) (tbl m 1)) := by
  rw [wordAt_v4 i (tbl m 0), wordAt_v9 i (tbl m 1)]
  exact chk_tbl m ord (i 0)

/-- No window's array is the segment numbers' buffer. -/
theorem arg1_rest : ∀ w : Fin 3, (spec0 w).arr.view.ref ≠ main_arg1 := by decide

/-- The whole program's run: it ends with every counter zero, the rows and the segment numbers as launched. -/
theorem quiescent (ord : ∀ c : Dev nD, Pool.Ordered (m ((c : Thread nD τ).loc main_arg1))) (g : Dev nD → PrngReg) :
    θ_run (defs (F := F)) (onTc main) (s₀ m g) (fun r => (∀ c : Dev nD, r.2.mem ((c : Thread nD τ).loc main_arg0) = m ((c : Thread nD τ).loc main_arg0)
      ∧ r.2.mem ((c : Thread nD τ).loc main_arg1) = m ((c : Thread nD τ).loc main_arg1)) ∧ r.2.sem = fun _ => 0) := by
  refine Pipeline.θ_run_frameP_forget pcfgs (fun _ => adm m) (datF m) 0 launch0 defs₀ Variants.none fgt m g main
    (body_obligation m (fun t => ?_)) (fun c => (datF m 0 c).share_full fun _ => rfl) (fun _ _ => rfl) (V m) (hmain m) (fun _ _ => rfl) (V_pre m) (fun _ _ => rfl)
    _ (fun r h => ⟨fun c => ⟨?_, ?_⟩, h.2⟩)
  · exact chk_words m ord (grid0.coords t)
  · exact (Pipeline.RDat.FramePost.arr_in h.1 c (0 : Fin 3) rfl).trans (V_arg0 m c)
  · exact ((h.1 c).2 main_arg1 (Pipeline.mem_restRefs_of main_arg1 rfl arg1_rest)).trans (V_arg1 m c)

end Cert.KernelIdeal.Pool

end
-- ==== Proof.RefLand.lean ====
/- Where the reference's scatters land. -/
module

public import proofs.«01_k».proof.Proof.Gen.ReferenceIdeal.Run
public import Idealize.ShloMosaic.Lib.Routing.OpsSet

@[expose] public section

set_option maxRecDepth 16384

noncomputable section

namespace Cert.ReferenceIdeal.Pool

open Idealize.ShloMosaic Idealize.ShloMosaic.ValueIdx Idealize.ShloMosaic.Routing
open Cert.ReferenceIdeal Cert.ReferenceIdeal.Gen

/-- A count's update lands at its index word. -/
theorem lands_count (idx : IVec S100000x1 32) (i : Fin 100000) (r : Fin 512) :
    scatter_S512_S100000x1_S100000_n_0_0_1.resultIdx? (ix1 i) idx = some (ix1 r) ↔ (idx (ix2 i (0 : Fin 1))).toInt = (r.val : ℤ) := by
  rw [resultIdx?_eq_some]
  have e : ∀ a, scatter_S512_S100000x1_S100000_n_0_0_1.start (ix1 i) idx a + (scatter_S512_S100000x1_S100000_n_0_0_1.window (ix1 i) a : ℤ) = (idx (ix2 i (0 : Fin 1))).toInt := fun a => by
    match a with
    | ⟨0, _⟩ =>
      refine (add_zero _).trans (congrArg (fun x => (idx x).toInt) (funext fun b => ?_))
      match b with
      | ⟨0, _⟩ => rfl
      | ⟨1, _⟩ => rfl
  refine ⟨fun h => (e 0).symm.trans (h 0), fun h a => ?_⟩
  match a with
  | ⟨0, _⟩ => exact (e 0).trans h

/-- A row's update lands in the row of its index word. -/
theorem lands_sum (idx : IVec S100000x1 32) (i : Fin 100000) (k : Fin 256) (r : Fin 512) (c : Fin 256) :
    scatter_S512x256_S100000x1_S100000x256_1_0_0_1.resultIdx? (ix2 i k) idx = some (ix2 r c) ↔ (idx (ix2 i (0 : Fin 1))).toInt = (r.val : ℤ) ∧ k = c := by
  rw [resultIdx?_eq_some]
  have e0 : scatter_S512x256_S100000x1_S100000x256_1_0_0_1.start (ix2 i k) idx 0 + (scatter_S512x256_S100000x1_S100000x256_1_0_0_1.window (ix2 i k) 0 : ℤ) = (idx (ix2 i (0 : Fin 1))).toInt := by
    refine (add_zero _).trans (congrArg (fun x => (idx x).toInt) (funext fun b => ?_))
    match b with
    | ⟨0, _⟩ => rfl
    | ⟨1, _⟩ => rfl
  have e1 : scatter_S512x256_S100000x1_S100000x256_1_0_0_1.start (ix2 i k) idx 1 + (scatter_S512x256_S100000x1_S100000x256_1_0_0_1.window (ix2 i k) 1 : ℤ) = (k.val : ℤ) := zero_add _
  constructor
  · intro h
    refine ⟨e0.symm.trans (h 0), Fin.ext ?_⟩
    have := e1.symm.trans (h 1)
    exact_mod_cast this
  · rintro ⟨h, rfl⟩ a
    match a with
    | ⟨0, _⟩ => exact e0.trans h
    | ⟨1, _⟩ => exact e1

/-- A row's update lands at its two index words. -/
theorem lands_top (idx : IVec S100000x2 32) (i : Fin 100000) (k : Fin 256) (r : Fin 512) (t : Fin 3) (c : Fin 256) :
    scatter_S512x3x256_S100000x2_S100000x256_1_01_01_1.resultIdx? (ix2 i k) idx = some (ix3 r t c)
      ↔ (idx (ix2 i (0 : Fin 2))).toInt = (r.val : ℤ) ∧ (idx (ix2 i (1 : Fin 2))).toInt = (t.val : ℤ) ∧ k = c := by
  rw [resultIdx?_eq_some]
  have e0 : scatter_S512x3x256_S100000x2_S100000x256_1_01_01_1.start (ix2 i k) idx 0 + (scatter_S512x3x256_S100000x2_S100000x256_1_01_01_1.window (ix2 i k) 0 : ℤ) = (idx (ix2 i (0 : Fin 2))).toInt := by
    refine (add_zero _).trans (congrArg (fun x => (idx x).toInt) (funext fun b => ?_))
    match b with
    | ⟨0, _⟩ => rfl
    | ⟨1, _⟩ => rfl
  have e1 : scatter_S512x3x256_S100000x2_S100000x256_1_01_01_1.start (ix2 i k) idx 1 + (scatter_S512x3x256_S100000x2_S100000x256_1_01_01_1.window (ix2 i k) 1 : ℤ) = (idx (ix2 i (1 : Fin 2))).toInt := by
    refine (add_zero _).trans (congrArg (fun x => (idx x).toInt) (funext fun b => ?_))
    match b with
    | ⟨0, _⟩ => rfl
    | ⟨1, _⟩ => rfl
  have e2 : scatter_S512x3x256_S100000x2_S100000x256_1_01_01_1.start (ix2 i k) idx 2 + (scatter_S512x3x256_S100000x2_S100000x256_1_01_01_1.window (ix2 i k) 2 : ℤ) = (k.val : ℤ) := zero_add _
  constructor
  · intro h
    refine ⟨e0.symm.trans (h 0), e1.symm.trans (h 1), Fin.ext ?_⟩
    have := e2.symm.trans (h 2)
    exact_mod_cast this
  · rintro ⟨h, h', rfl⟩ a
    match a with
    | ⟨0, _⟩ => exact e0.trans h
    | ⟨1, _⟩ => exact e1.trans h'
    | ⟨2, _⟩ => exact e2

end Cert.ReferenceIdeal.Pool

end
-- ==== Proof.RefDef.lean ====
/- The reference's result, step by step, as a function of the rows and the segment numbers. -/
module

public import proofs.«01_k».proof.Proof.RefLand
public import Idealize.ShloMosaic.PureOps.Ideal

@[expose] public section

set_option maxRecDepth 16384

noncomputable section

namespace Cert.ReferenceIdeal.Pool

open Idealize.ShloMosaic Idealize.ShloMosaic.TcCoe
open Cert.ReferenceIdeal Cert.ReferenceIdeal.Gen

variable (x : FVec Ideal S100000x256 .f32) (b : IVec S100000 32)

/-- Negative words are counted from the end `k`. -/
def wrap (k : BitVec 32) (v : IVec S100000 32) : IVec S100000 32 :=
  select (cmpi .slt v (broadcastInDim S100000 ![] bcast_S_S100000 (constantI S_ 32 0#32))) (addi v (broadcastInDim S100000 ![] bcast_S_S100000 (constantI S_ 32 k))) v

/-- A vector of words as one column of index words. -/
def column (v : IVec S100000 32) : IVec S100000x1 32 := broadcastInDim S100000x1 ![0] bcast_S100000_S100000x1_0 v

/-- How many rows each segment has, -/
def counts : IVec S512 32 :=
  Host.scatter scatter_S512_S100000x1_S100000_n_0_0_1 IntOp.addi (broadcastInDim S512 ![] bcast_S_S512 (constantI S_ 32 0#32))
    (column (wrap 512#32 (maxsi (broadcastInDim S100000 ![] bcast_S_S100000 (id (constantI S_ 32 0#32))) b))) (broadcastInDim S100000 ![] bcast_S_S100000 (constantI S_ 32 1#32))

/-- the sums of its rows, -/
def sums : FVec Ideal S512x256 .f32 :=
  Host.scatterAdd scatter_S512x256_S100000x1_S100000x256_1_0_0_1 (broadcastInDim S512x256 ![] bcast_S_S512x256 (constant S_ .f32 0x00000000#32)) (column b) x

/-- and their means. -/
def mean : FVec Ideal S512x256 .f32 :=
  Host.divf (sums x b) (broadcastInDim S512x256 ![0, 1] bcast_S512x1_S512x256_0_1 (broadcastInDim S512x1 ![0] bcast_S512_S512x1_0
    (sitofp .f32 (maxsi (counts b) (broadcastInDim S512 ![] bcast_S_S512 (constantI S_ 32 1#32))))))

/-- The rows' keys, negated. -/
def negKeys : FVec Ideal S100000 .f32 :=
  Host.negf (shapeCast _ (extractStridedSlice S100000x1 ![0, 255] x slices_S100000x256_S100000x1_0_255) shapeCasts_S100000x1_S100000)

/-- The numbers of the rows, sorted by segment and by decreasing key. -/
def order : IVec S100000 32 := (Host.sort3 S100000 0 (comparator_i32_f32_i32_d0 (F := Ideal)) b (negKeys x) (iotaInDim S100000 32 0)).2.2

/-- The rows and their segments in that order. -/
def rows : FVec Ideal S100000x256 .f32 := Host.gather gather_S100000x256_S100000x1_S100000x256_1_0_n_n_0_1_1256 x (column (wrap 100000#32 (order x b)))

def segs : IVec S100000 32 := Host.gather gather_S100000_S100000x1_S100000_n_0_n_n_0_1_1 b (column (wrap 100000#32 (order x b)))

/-- Where each segment starts in that order. -/
def starts : IVec S512 32 :=
  subi (Host.reduceWindow IntOp.addi ![512] ![1] ![511] ![0] (counts b) (broadcastInDim S_ ![] bcast_S_S_ (constantI S_ 32 0#32)) reduceWindows_S512_S512_w512s1p511_0 h_S_) (counts b)

/-- The rank of each row in its segment. -/
def ranks : IVec S100000 32 := subi (iotaInDim S100000 32 0) (Host.gather gather_S512_S100000x1_S100000_n_0_n_n_0_1_1 (starts b) (column (wrap 512#32 (segs x b))))

/-- Whether it is below 3. -/
def keep : IVec S100000 1 := cmpi .slt (ranks x b) (broadcastInDim S100000 ![] bcast_S_S100000 (constantI S_ 32 3#32))

/-- Where each row is written. -/
def rowIx : IVec S100000 32 := select (keep x b) (segs x b) (broadcastInDim S100000 ![] bcast_S_S100000 (id (constantI S_ 32 512#32)))

def colIx : IVec S100000 32 := select (keep x b) (ranks x b) (broadcastInDim S100000 ![] bcast_S_S100000 (id (constantI S_ 32 0#32)))

def pairs : IVec S100000x2 32 :=
  concatenate S100000x2 1 [⟨S100000x1, column (wrap 512#32 (rowIx x b))⟩, ⟨S100000x1, column (wrap 3#32 (colIx x b))⟩] concatenates_S100000x1_S100000x1_S100000x2_d1

/-- The first three rows of each segment. -/
def top : FVec Ideal S512x3x256 .f32 :=
  Host.scatter scatter_S512x3x256_S100000x2_S100000x256_1_01_01_1 (fun _ b => b) (broadcastInDim S512x3x256 ![] bcast_S_S512x3x256 (constant S_ .f32 0x00000000#32)) (pairs x b) (rows x b)

/-- The whole result. -/
def out : FVec Ideal S512x1280 .f32 :=
  concatenate S512x1280 1 [⟨S512x256, mean x b⟩, ⟨S512x256, sums x b⟩, ⟨S512x768, shapeCast _ (top x b) shapeCasts_S512x3x256_S512x768⟩] concatenates_S512x256_S512x256_S512x768_S512x1280_d1

/-- The reference's run ends with it. -/
theorem result_out (m : (ℓ : Loc nD τ sig) → Buf (Elt Ideal) ℓ) (c : Dev nD) :
    Value.res_main_v68 m c = out (m ((c : Thread nD τ).loc main_arg0)) (m ((c : Thread nD τ).loc main_arg1)) := rfl

end Cert.ReferenceIdeal.Pool

end
-- ==== Proof.Spec.lean ====
/- The best three of a finite set of numbered keys: the greatest key first, and of equal keys the least number. -/
module

public import Mathlib.Data.EReal.Operations
public import Mathlib.Data.Finset.Max
public import Mathlib.Algebra.BigOperators.Fin

@[expose] public section

noncomputable section

open Classical

namespace Pool

variable (key : ℕ → EReal)

/-- Row `j` comes before row `i`: a greater key, or the same key and a smaller number. -/
def beats (j i : ℕ) : Prop := key i < key j ∨ (key i = key j ∧ j < i)

theorem beats_irrefl (i : ℕ) : ¬ beats key i i := by
  rintro (h | h)
  · exact lt_irrefl _ h
  · exact lt_irrefl _ h.2

theorem beats_trans {i j k : ℕ} (h : beats key i j) (h' : beats key j k) : beats key i k := by
  rcases h with h | ⟨h, g⟩ <;> rcases h' with h' | ⟨h', g'⟩
  · exact .inl (h'.trans h)
  · exact .inl (h'.symm ▸ h)
  · exact .inl (h ▸ h')
  · exact .inr ⟨h'.trans h, g.trans g'⟩

theorem beats_total {i j : ℕ} (h : i ≠ j) : beats key i j ∨ beats key j i := by
  rcases lt_trichotomy (key i) (key j) with h1 | h1 | h1
  · exact .inr (.inl h1)
  · rcases lt_or_gt_of_ne h with h2 | h2
    · exact .inl (.inr ⟨h1.symm, h2⟩)
    · exact .inr (.inr ⟨h1, h2⟩)
  · exact .inl (.inl h1)

theorem le_of_beats {i j : ℕ} (h : beats key i j) : key j ≤ key i := by
  rcases h with h | h
  · exact h.le
  · exact h.1.le

/-- The number that stands for no row. -/
def big : EReal := ((1000000000 : ℝ) : EReal)

/-- The key of a row, −∞ for none. -/
def kOf : Option ℕ → EReal
  | none => ⊥
  | some i => key i

/-- The number of a row, 10⁹ for none. -/
def iOf : Option ℕ → EReal
  | none => big
  | some i => ((i : ℝ) : EReal)

/-- `o` is the first row of `A`, none when `A` is empty. -/
def Pick (A : Finset ℕ) : Option ℕ → Prop
  | none => A = ∅
  | some b => b ∈ A ∧ ∀ j ∈ A, j ≠ b → beats key b j

/-- `A` without `o`. -/
def drop (A : Finset ℕ) : Option ℕ → Finset ℕ
  | none => A
  | some b => A.erase b

/-- How many rows of `A` come before `i`. -/
def rk (A : Finset ℕ) (i : ℕ) : ℕ := (A.filter fun j => beats key j i).card

/-- The first three rows of `A`, in order. -/
def Chain (A : Finset ℕ) (o : Fin 3 → Option ℕ) : Prop :=
  Pick key A (o 0) ∧ Pick key (drop A (o 0)) (o 1) ∧ Pick key (drop (drop A (o 0)) (o 1)) (o 2)

theorem rk_mono {A B : Finset ℕ} (h : A ⊆ B) (i : ℕ) : rk key A i ≤ rk key B i :=
  Finset.card_le_card (Finset.filter_subset_filter _ h)

theorem pick_exists (A : Finset ℕ) : ∃ o, Pick key A o := by
  rcases A.eq_empty_or_nonempty with h | h
  · exact ⟨none, h⟩
  · obtain ⟨b, hb, hm⟩ := A.exists_min_image (rk key A) h
    refine ⟨some b, hb, fun j hj hne => ?_⟩
    rcases beats_total key hne with h1 | h1
    · exfalso
      have : rk key A j < rk key A b := by
        refine Finset.card_lt_card ⟨fun k hk => ?_, fun hs => ?_⟩
        · simp only [Finset.mem_filter] at hk ⊢
          exact ⟨hk.1, beats_trans key hk.2 h1⟩
        · have := hs (Finset.mem_filter.2 ⟨hj, h1⟩)
          exact beats_irrefl key j (Finset.mem_filter.1 this).2
      exact absurd (hm j hj) (not_le.2 this)
    · exact h1

theorem beats_asymm {i j : ℕ} (h : beats key i j) (h' : beats key j i) : False :=
  beats_irrefl key i (beats_trans key h h')

theorem pick_unique {A : Finset ℕ} {o o' : Option ℕ} (h : Pick key A o) (h' : Pick key A o') : o = o' := by
  cases o with
  | none =>
    cases o' with
    | none => rfl
    | some b =>
      simp only [Pick] at h h'
      rw [h] at h'; exact absurd h'.1 (Finset.notMem_empty _)
  | some a =>
    cases o' with
    | none =>
      simp only [Pick] at h h'
      rw [h'] at h; exact absurd h.1 (Finset.notMem_empty _)
    | some b =>
      by_contra hne
      have hab : a ≠ b := fun e => hne (congrArg some e)
      exact beats_asymm key (h.2 b h'.1 hab.symm) (h'.2 a h.1 hab)

theorem mem_drop {A : Finset ℕ} {o : Option ℕ} {i : ℕ} : i ∈ drop A o ↔ i ∈ A ∧ o ≠ some i := by
  cases o with
  | none => simp [drop]
  | some b => simp only [drop, Finset.mem_erase, ne_eq, Option.some.injEq]; constructor
              · exact fun h => ⟨h.2, fun e => h.1 e.symm⟩
              · exact fun h => ⟨fun e => h.2 e.symm, h.1⟩

theorem rk_first {A : Finset ℕ} {b : ℕ} (h : Pick key A (some b)) : rk key A b = 0 := by
  refine Finset.card_eq_zero.2 (Finset.filter_eq_empty_iff.2 fun j hj hb => ?_)
  by_cases e : j = b
  · exact beats_irrefl key b (e ▸ hb)
  · exact beats_asymm key hb (h.2 j hj e)

theorem rk_drop {A : Finset ℕ} {o : Option ℕ} (h : Pick key A o) {i : ℕ} (hi : i ∈ drop A o) :
    rk key A i = rk key (drop A o) i + 1 := by
  cases o with
  | none => simp only [Pick] at h; subst h; exact absurd hi (Finset.notMem_empty _)
  | some b =>
    have hb := (mem_drop.1 hi)
    have hne : i ≠ b := fun e => hb.2 (congrArg some e.symm)
    have hbi : beats key b i := h.2 i hb.1 hne
    unfold rk
    have : A.filter (fun j => beats key j i) = insert b ((drop A (some b)).filter fun j => beats key j i) := by
      ext k
      simp only [Finset.mem_filter, Finset.mem_insert, drop, Finset.mem_erase]
      constructor
      · intro hk
        by_cases e : k = b
        · exact .inl e
        · exact .inr ⟨⟨e, hk.1⟩, hk.2⟩
      · rintro (e | hk)
        · subst e; exact ⟨h.1, hbi⟩
        · exact ⟨hk.1.2, hk.2⟩
    rw [this, Finset.card_insert_of_notMem]
    simp [drop]

theorem pick_iff {A : Finset ℕ} {o : Option ℕ} (h : Pick key A o) (i : ℕ) : o = some i ↔ i ∈ A ∧ rk key A i = 0 := by
  constructor
  · rintro rfl; exact ⟨h.1, rk_first key h⟩
  · rintro ⟨hi, h0⟩
    by_contra hne
    have := rk_drop key h (mem_drop.2 ⟨hi, hne⟩)
    omega

theorem rk_drop_iff {A : Finset ℕ} {o : Option ℕ} (h : Pick key A o) (i t : ℕ) :
    i ∈ drop A o ∧ rk key (drop A o) i = t ↔ i ∈ A ∧ rk key A i = t + 1 := by
  constructor
  · rintro ⟨hi, ht⟩
    exact ⟨(mem_drop.1 hi).1, by rw [rk_drop key h hi, ht]⟩
  · rintro ⟨hi, ht⟩
    have hd : i ∈ drop A o := by
      refine mem_drop.2 ⟨hi, fun e => ?_⟩
      have := ((pick_iff key h i).1 e).2
      omega
    have := rk_drop key h hd
    exact ⟨hd, by omega⟩

/-- The `t`-th of the first three rows is the row with `t` rows before it. -/
theorem chain_iff {A : Finset ℕ} {o : Fin 3 → Option ℕ} (h : Chain key A o) (t : Fin 3) (i : ℕ) :
    o t = some i ↔ i ∈ A ∧ rk key A i = t := by
  obtain ⟨h0, h1, h2⟩ := h
  match t with
  | 0 => exact pick_iff key h0 i
  | 1 => exact (pick_iff key h1 i).trans (rk_drop_iff key h0 i 0)
  | 2 => exact (pick_iff key h2 i).trans ((rk_drop_iff key h1 i 0).trans (rk_drop_iff key h0 i 1))

theorem pick_sub {K U : Finset ℕ} {o : Option ℕ} (T : ℕ) (hs : K ⊆ U) (hk : ∀ i ∈ U, rk key U i < T + 1 → i ∈ K)
    (h : Pick key K o) :
    Pick key U o ∧ drop K o ⊆ drop U o ∧ ∀ i ∈ drop U o, rk key (drop U o) i < T → i ∈ drop K o := by
  have hU : Pick key U o := by
    obtain ⟨o', ho'⟩ := pick_exists key U
    cases o' with
    | none =>
      have e : U = ∅ := ho'
      have e' : K = ∅ := Finset.subset_empty.1 (e ▸ hs)
      rw [pick_unique key h (o' := none) e']; exact e
    | some b =>
      have hb : b ∈ K := hk b ho'.1 (by rw [rk_first key ho']; omega)
      rw [pick_unique key h (o' := some b) ⟨hb, fun j hj => ho'.2 j (hs hj)⟩]
      exact ho'
  refine ⟨hU, fun i hi => mem_drop.2 ⟨hs (mem_drop.1 hi).1, (mem_drop.1 hi).2⟩, fun i hi hr => ?_⟩
  have := rk_drop key hU hi
  exact mem_drop.2 ⟨hk i (mem_drop.1 hi).1 (by omega), (mem_drop.1 hi).2⟩

/-- The first three of a part that holds the first three of the whole are the first three of the whole. -/
theorem chain_sub {K U : Finset ℕ} {o : Fin 3 → Option ℕ} (hs : K ⊆ U) (hk : ∀ i ∈ U, rk key U i < 3 → i ∈ K)
    (h : Chain key K o) : Chain key U o := by
  obtain ⟨h0, h1, h2⟩ := h
  obtain ⟨g0, s0, k0⟩ := pick_sub key 2 hs hk h0
  obtain ⟨g1, s1, k1⟩ := pick_sub key 1 s0 k0 h1
  exact ⟨g0, g1, (pick_sub key 0 s1 k1 h2).1⟩

/-- The first three of the first threes of two sets are the first three of their union. -/
theorem chain_merge {L S K : Finset ℕ} {a p o : Fin 3 → Option ℕ} (ha : Chain key L a) (hp : Chain key S p)
    (hK : ∀ i, i ∈ K ↔ ∃ t, a t = some i ∨ p t = some i) (h : Chain key K o) : Chain key (L ∪ S) o := by
  refine chain_sub key (fun i hi => ?_) (fun i hi hr => ?_) h
  · obtain ⟨t, e | e⟩ := (hK i).1 hi
    · exact Finset.mem_union_left _ ((chain_iff key ha t i).1 e).1
    · exact Finset.mem_union_right _ ((chain_iff key hp t i).1 e).1
  · rcases Finset.mem_union.1 hi with hl | hl
    · have := rk_mono key (Finset.subset_union_left (s₁ := L) (s₂ := S)) i
      exact (hK i).2 ⟨⟨rk key L i, by omega⟩, .inl ((chain_iff key ha _ i).2 ⟨hl, rfl⟩)⟩
    · have := rk_mono key (Finset.subset_union_right (s₁ := L) (s₂ := S)) i
      exact (hK i).2 ⟨⟨rk key S i, by omega⟩, .inr ((chain_iff key hp _ i).2 ⟨hl, rfl⟩)⟩

theorem iOf_lt_big {i : ℕ} (h : i < 1000000000) : iOf (some i) < big := by
  show ((i : ℝ) : EReal) < ((1000000000 : ℝ) : EReal)
  exact_mod_cast h

theorem iOf_inj {o o' : Option ℕ} (h : ∀ i, o = some i → i < 1000000000) (h' : ∀ i, o' = some i → i < 1000000000)
    (e : iOf o = iOf o') : o = o' := by
  cases o with
  | none =>
    cases o' with
    | none => rfl
    | some j => exact absurd e (iOf_lt_big (h' j rfl)).ne'
  | some i =>
    cases o' with
    | none => exact absurd e (iOf_lt_big (h i rfl)).ne
    | some j =>
      have : (i : ℝ) = (j : ℝ) := EReal.coe_injective e
      exact congrArg some (by exact_mod_cast this)

/-- A family of optional rows: its greatest key, and the least number among those of that key, are those of the
    first row of the family. -/
theorem pick_family {ι : Type} [Fintype ι] [Nonempty ι] (opt : ι → Option ℕ) (hb : ∀ l i, opt l = some i → i < 1000000000)
    (A : Finset ℕ) (hA : ∀ i, i ∈ A ↔ ∃ l, opt l = some i) {mk mi : EReal}
    (hk : mk = Finset.univ.sup fun l => kOf key (opt l))
    (hi : mi = Finset.univ.inf fun l => if kOf key (opt l) = mk then iOf (opt l) else big) :
    ∃ o, mk = kOf key o ∧ mi = iOf o ∧ Pick key A o := by
  obtain ⟨o, ho⟩ := pick_exists key A
  refine ⟨o, ?_⟩
  have hmk : mk = kOf key o := by
    rw [hk]
    cases o with
    | none =>
      refine le_antisymm (Finset.sup_le fun l _ => ?_) bot_le
      cases e : opt l with
      | none => exact bot_le
      | some i => exact absurd ((hA i).2 ⟨l, e⟩) (by simp only [Pick] at ho; rw [ho]; exact Finset.notMem_empty _)
    | some b =>
      obtain ⟨l, hl⟩ := (hA b).1 ho.1
      refine le_antisymm (Finset.sup_le fun l' _ => ?_) ?_
      · cases e : opt l' with
        | none => exact bot_le
        | some j =>
          by_cases ej : j = b
          · rw [ej]
          · exact le_of_beats key (ho.2 j ((hA j).2 ⟨l', e⟩) ej)
      · have := Finset.le_sup (f := fun l => kOf key (opt l)) (Finset.mem_univ l)
        simpa only [hl] using this
  refine ⟨hmk, ?_, ho⟩
  rw [hi]
  cases o with
  | none =>
    have hn : ∀ l, opt l = none := fun l => by
      cases e : opt l with
      | none => rfl
      | some i => exact absurd ((hA i).2 ⟨l, e⟩) (by simp only [Pick] at ho; rw [ho]; exact Finset.notMem_empty _)
    simp only [hn, iOf, ite_self]
    exact Finset.inf_const Finset.univ_nonempty _
  | some b =>
    obtain ⟨l, hl⟩ := (hA b).1 ho.1
    refine le_antisymm ?_ (Finset.le_inf fun l' _ => ?_)
    · refine (Finset.inf_le (Finset.mem_univ l)).trans (le_of_eq ?_)
      simp only [hl, hmk, kOf, if_true]
    · have hbb := (iOf_lt_big (hb l b hl)).le
      split
      · rename_i hkey
        cases e : opt l' with
        | none => exact hbb
        | some j =>
          by_cases ej : j = b
          · rw [ej]
          · rcases ho.2 j ((hA j).2 ⟨l', e⟩) ej with h1 | h1
            · rw [hmk, e] at hkey
              exact absurd hkey h1.ne
            · simp only [iOf]
              exact_mod_cast h1.2.le
      · exact hbb

/-- The family without `o`. -/
def without (o x : Option ℕ) : Option ℕ := if x = o then none else x

theorem without_mem {ι : Type} {opt : ι → Option ℕ} {o : Option ℕ} {A : Finset ℕ} (hA : ∀ i, i ∈ A ↔ ∃ l, opt l = some i) (i : ℕ) :
    i ∈ drop A o ↔ ∃ l, without o (opt l) = some i := by
  rw [mem_drop, hA]
  constructor
  · rintro ⟨⟨l, hl⟩, hne⟩
    exact ⟨l, by unfold without; rw [if_neg (fun e => hne (by rw [← e, hl])), hl]⟩
  · rintro ⟨l, hl⟩
    unfold without at hl
    split at hl
    · exact absurd hl (by simp)
    · rename_i hne
      exact ⟨⟨l, hl⟩, fun e => hne (by rw [hl, e])⟩

theorem without_bound {o x : Option ℕ} {N : ℕ} (h : ∀ i, x = some i → i < N) : ∀ i, without o x = some i → i < N := by
  intro i hi
  unfold without at hi
  split at hi
  · exact absurd hi (by simp)
  · exact h i hi

variable (B : ℕ → ℕ) (X : ℕ → Fin 256 → EReal)

/-- The rows of segment `r` among the first `n`. -/
def mem (n r : ℕ) : Finset ℕ := (Finset.range n).filter fun i => B i = r

/-- The sum of column `c` over the rows of segment `r` among the first `n`. -/
def sumS (n r : ℕ) (c : Fin 256) : EReal := ∑ i ∈ Finset.range n, if B i = r then X i c else 0

/-- How many rows of segment `r` there are among the first `n`. -/
def cntS (n r : ℕ) : EReal := ∑ i ∈ Finset.range n, if B i = r then (1 : EReal) else 0

/-- The column `c` of a row, 0 for none. -/
def rowOf (c : Fin 256) : Option ℕ → EReal
  | none => 0
  | some i => X i c

theorem sumS_add (n r : ℕ) (c : Fin 256) :
    sumS B X (n + 2048) r c = sumS B X n r c + ∑ j : Fin 2048, if B (n + j) = r then X (n + j) c else 0 := by
  unfold sumS
  rw [Finset.sum_range_add, Finset.sum_range (fun x => if B (n + x) = r then X (n + x) c else 0)]

theorem cntS_add (n r : ℕ) : cntS B (n + 2048) r = cntS B n r + ∑ j : Fin 2048, if B (n + j) = r then (1 : EReal) else 0 := by
  unfold cntS
  rw [Finset.sum_range_add, Finset.sum_range (fun x => if B (n + x) = r then (1 : EReal) else 0)]

/-- The rows of segment `r` in the block of rows from `n` on. -/
def blk (n r : ℕ) : Finset ℕ := (Finset.Ico n (n + 2048)).filter fun i => B i = r

theorem mem_add (n r : ℕ) : mem B (n + 2048) r = blk B n r ∪ mem B n r := by
  ext i
  simp only [mem, blk, Finset.mem_filter, Finset.mem_union, Finset.mem_range, Finset.mem_Ico]
  constructor
  · rintro ⟨h, e⟩
    by_cases hn : i < n
    · exact .inr ⟨hn, e⟩
    · exact .inl ⟨⟨by omega, h⟩, e⟩
  · rintro (⟨⟨h, h'⟩, e⟩ | ⟨h, e⟩)
    · exact ⟨h', e⟩
    · exact ⟨by omega, e⟩

/-- The block's rows of segment `r`, as a family over the block. -/
def blkOpt (n r : ℕ) (j : Fin 2048) : Option ℕ := if B (n + j) = r then some (n + j) else none

theorem blkOpt_mem (n r i : ℕ) : i ∈ blk B n r ↔ ∃ j, blkOpt B n r j = some i := by
  simp only [blk, blkOpt, Finset.mem_filter, Finset.mem_Ico]
  constructor
  · rintro ⟨⟨h, h'⟩, e⟩
    refine ⟨⟨i - n, by omega⟩, ?_⟩
    have : n + (i - n) = i := by omega
    simp only [this, e, if_true]
  · rintro ⟨j, hj⟩
    split at hj
    · rename_i e
      have := j.isLt
      obtain rfl : n + (j : ℕ) = i := Option.some.inj hj
      exact ⟨⟨by omega, by omega⟩, e⟩
    · exact absurd hj (by simp)

/-- The indicator of a condition. -/
def ind (p : Prop) : EReal := if p then 1 else 0

/-- A row is taken from the block where its number is in the block, else from the three rows kept before. -/
theorem slot_eq (n : ℕ) (hn : n + 2048 < 1000000000) (c : Fin 256) (o : Option ℕ) (p : Fin 3 → Option ℕ)
    (hp : ∀ t i, p t = some i → i < n) (hd : ∀ s t i, p s = some i → p t = some i → s = t)
    (ho : ∀ i, o = some i → (n ≤ i ∧ i < n + 2048) ∨ ∃ t, p t = some i) (mk mi : EReal) (hk : mk = kOf key o) (hi : mi = iOf o) :
    (∑ j : Fin 2048, ind ((((n + j : ℕ) : ℝ) : EReal) = mi ∧ ((n : ℝ) : EReal) ≤ mi) * X (n + j) c)
      + ind (¬ ((n : ℝ) : EReal) ≤ mi ∧ mk = kOf key (p 0) ∧ mi = iOf (p 0)) * rowOf X c (p 0)
      + ind (¬ ((n : ℝ) : EReal) ≤ mi ∧ mk = kOf key (p 1) ∧ mi = iOf (p 1)) * rowOf X c (p 1)
      + ind (¬ ((n : ℝ) : EReal) ≤ mi ∧ mk = kOf key (p 2) ∧ mi = iOf (p 2)) * rowOf X c (p 2)
      = rowOf X c o := by
  subst hk hi
  have hpb : ∀ t i, p t = some i → i < 1000000000 := fun t i h => by have := hp t i h; omega
  have hob : ∀ i, o = some i → i < 1000000000 := fun i h => by
    rcases ho i h with h1 | ⟨t, h1⟩
    · omega
    · exact hpb t i h1
  have hle : ∀ i : ℕ, (((n : ℝ) : EReal) ≤ iOf (some i)) ↔ n ≤ i := fun i => by
    simp only [iOf]; exact_mod_cast Iff.rfl
  cases o with
  | none =>
    have h1 : ((n : ℝ) : EReal) ≤ iOf none := by
      have := (iOf_lt_big (i := n) (by omega)).le
      exact this
    have h2 : ∀ j : Fin 2048, ¬ ((((n + j : ℕ) : ℝ) : EReal) = iOf none ∧ ((n : ℝ) : EReal) ≤ iOf none) := fun j h => by
      have := (iOf_lt_big (i := n + j) (by have := j.isLt; omega)).ne
      exact this h.1
    simp only [ind, h1, not_true_eq_false, false_and, if_false, zero_mul, add_zero, rowOf]
    refine Finset.sum_eq_zero fun j _ => ?_
    rw [if_neg (fun h => h2 j ⟨h.1, h1⟩), zero_mul]
  | some i =>
    by_cases hin : n ≤ i
    · have hlt : i < n + 2048 := by
        rcases ho i rfl with h1 | ⟨t, h1⟩
        · exact h1.2
        · have := hp t i h1; omega
      simp only [ind, hle, hin, not_true_eq_false, false_and, if_false, zero_mul, add_zero, and_true, rowOf]
      rw [Finset.sum_eq_single (⟨i - n, by omega⟩ : Fin 2048)]
      · have e : n + (i - n) = i := by omega
        simp only [e, iOf, if_true, one_mul]
      · intro j _ hj
        rw [if_neg, zero_mul]
        intro e
        have e' : n + (j : ℕ) = i := by simp only [iOf] at e; exact_mod_cast e
        exact hj (Fin.ext (by simp only; omega))
      · exact fun h => absurd (Finset.mem_univ _) h
    · obtain ⟨t, ht⟩ : ∃ t, p t = some i := by
        rcases ho i rfl with h1 | h1
        · exact absurd h1.1 hin
        · exact h1
      have hf : ∀ s, (kOf key (some i) = kOf key (p s) ∧ iOf (some i) = iOf (p s)) ↔ s = t := fun s => by
        constructor
        · rintro ⟨_, e⟩
          have := iOf_inj (fun j h => hob j h) (fun j h => hpb s j h) e
          exact hd s t i this.symm ht
        · rintro rfl; rw [ht]; exact ⟨rfl, rfl⟩
      have hz : (∑ j : Fin 2048, ind ((((n + j : ℕ) : ℝ) : EReal) = iOf (some i) ∧ ((n : ℝ) : EReal) ≤ iOf (some i)) * X (n + j) c) = 0 := by
        refine Finset.sum_eq_zero fun j _ => ?_
        simp only [ind, hle, hin, and_false, if_false, zero_mul]
      rw [hz]
      simp only [ind, hle, hin, not_false_eq_true, true_and, hf]
      have hr : rowOf X c (some i) = rowOf X c (p t) := by rw [ht]
      rw [hr]
      match t with
      | 0 => simp
      | 1 => simp
      | 2 => simp

end Pool

end
-- ==== Proof.RefSort.lean ====
/- A stable sort of rows by segment and, within one, by decreasing key: the position a row comes to. -/
module

public import proofs.«01_k».proof.Proof.Spec
public import Idealize.ShloMosaic.Lib.SortPrefix

@[expose] public section

noncomputable section

namespace Pool

open Idealize.ShloMosaic

/-- On an increasing list, a stable sort asks of its relation only whether a later element goes before an earlier one. -/
theorem stableSort_of_lt {n : ℕ} (R R' : Fin n → Fin n → Bool) (h : ∀ a b, a < b → R b a = R' b a) (l : List (Fin n)) (hl : l.Pairwise (· < ·)) :
    stableSort R l = stableSort R' l := by
  induction l with
  | nil => rfl
  | cons a l ih =>
    rw [List.pairwise_cons] at hl
    unfold stableSort
    rw [ih hl.2]
    exact insertBefore_congr R R' a _ fun b hb => h a b (hl.1 b ((perm_stableSort R' l).mem_iff.1 hb))

variable (B : ℕ → ℕ) (key : ℕ → EReal)

/-- Row `i` comes before row `j`: in an earlier segment, or in the same one with a greater key or the same key and an earlier number. -/
def before (i j : ℕ) : Prop := B i < B j ∨ (B i = B j ∧ beats key i j)

theorem before_total {i j : ℕ} (h : i ≠ j) : before B key i j ∨ before B key j i := by
  rcases lt_trichotomy (B i) (B j) with h1 | h1 | h1
  · exact .inl (.inl h1)
  · rcases beats_total key h with h2 | h2
    · exact .inl (.inr ⟨h1, h2⟩)
    · exact .inr (.inr ⟨h1.symm, h2⟩)
  · exact .inr (.inl h1)

theorem before_trans {i j k : ℕ} (h : before B key i j) (h' : before B key j k) : before B key i k := by
  rcases h with h | ⟨h, g⟩ <;> rcases h' with h' | ⟨h', g'⟩
  · exact .inl (h.trans h')
  · exact .inl (h'.symm ▸ h)
  · exact .inl (h ▸ h')
  · exact .inr ⟨h.trans h', beats_trans key g g'⟩

theorem before_irrefl (i : ℕ) : ¬ before B key i i := by
  rintro (h | ⟨_, h⟩)
  · exact lt_irrefl _ h
  · exact beats_irrefl key i h

open Classical in
/-- How many of the first `n` rows come before row `i`. -/
def place (n i : ℕ) : ℕ := ((Finset.range n).filter fun j => before B key j i).card

open Classical in
/-- The row a stable sort puts at position `p` is the one of place `p`. -/
theorem place_sorted {n : ℕ} (R : Fin n → Fin n → Bool) (h : ∀ a b : Fin n, a < b → (R b a = true ↔ before B key b a)) (p : Fin n) :
    place B key n (sortedFrom R p) = p.val := by
  let R' : Fin n → Fin n → Bool := fun a b => decide (before B key a b)
  have hT : StrictTotalBefore R' :=
    ⟨fun a => decide_eq_false (before_irrefl B key a),
      fun a b c hab hbc => decide_eq_true (before_trans B key (of_decide_eq_true hab) (of_decide_eq_true hbc)),
      fun a b hne => (before_total B key (fun e => hne (Fin.ext e))).imp (fun h => decide_eq_true h) (fun h => decide_eq_true h)⟩
  have hs : sortPositions n R = sortPositions n R' :=
    stableSort_of_lt R R' (fun a b hab => by
      rw [Bool.eq_iff_iff, h a b hab]
      exact (decide_eq_true_iff).symm) _ (List.pairwise_lt_finRange n)
  have hσ : sortedFrom R = sortedFrom R' := by
    funext k
    unfold sortedFrom
    rw [List.get_of_eq hs]
    rfl
  rw [hσ]
  have hmono : ∀ a b : Fin n, a < b → before B key (sortedFrom R' a) (sortedFrom R' b) := fun a b hab => by
    have hn := sortedFrom_noInversion R' R' (fun a b h => hT.asymm a b h) (fun _ _ h => h) hT.negTrans a b hab
    rcases before_total B key (i := sortedFrom R' a) (j := sortedFrom R' b) (fun e => hab.ne (sortedFrom_injective R' (Fin.ext e))) with h | h
    · exact h
    · exact absurd h (of_decide_eq_false hn)
  have hiff : ∀ a : Fin n, before B key (sortedFrom R' a) (sortedFrom R' p) ↔ a < p := fun a => by
    constructor
    · intro hb
      by_contra hn
      rcases (not_lt.1 hn).lt_or_eq with h | h
      · exact before_irrefl B key _ (before_trans B key hb (hmono _ _ h))
      · subst h; exact before_irrefl B key _ hb
    · exact hmono a p
  have e : ((Finset.range n).filter fun j => before B key j (sortedFrom R' p)) = (Finset.univ.filter fun a : Fin n => a < p).image fun a => (sortedFrom R' a).val := by
    ext j
    simp only [Finset.mem_filter, Finset.mem_range, Finset.mem_image, Finset.mem_univ, true_and]
    constructor
    · rintro ⟨hj, hb⟩
      obtain ⟨a, ha⟩ := sortedFrom_surjective R' ⟨j, hj⟩
      refine ⟨a, (hiff a).1 ?_, congrArg Fin.val ha⟩
      rw [ha]; exact hb
    · rintro ⟨a, ha, rfl⟩
      exact ⟨Fin.isLt _, (hiff a).2 ha⟩
  unfold place
  rw [e, Finset.card_image_of_injective _ fun a b h => sortedFrom_injective R' (Fin.ext h)]
  rw [show (Finset.univ.filter fun a : Fin n => a < p) = Finset.Iio p from Finset.ext fun a => by rw [Finset.mem_filter, Finset.mem_Iio]; simp]
  exact Fin.card_Iio p

/-- How many of the first `n` rows are in segments before `s`, -/
def start (n s : ℕ) : ℕ := ((Finset.range n).filter fun j => B j < s).card

/-- and how many in `s`. -/
def num (n s : ℕ) : ℕ := (mem B n s).card

theorem start_succ (n s : ℕ) : start B n (s + 1) = start B n s + num B n s := by
  unfold start num mem
  rw [← Finset.card_union_of_disjoint]
  · congr 1
    ext j
    simp only [Finset.mem_filter, Finset.mem_union, Finset.mem_range]
    omega
  · rw [Finset.disjoint_filter]
    intro j _ h1 h2
    omega

theorem start_sum (n s : ℕ) : ((List.range s).map (num B n)).sum = start B n s := by
  induction s with
  | zero => simp [start]
  | succ s ih => rw [List.range_succ, List.map_append, List.sum_append, ih, start_succ]; simp

theorem start_le (n s : ℕ) : start B n s ≤ n := (Finset.card_filter_le _ _).trans (Finset.card_range n).le

theorem num_le (n s : ℕ) : num B n s ≤ n := (Finset.card_filter_le _ _).trans (Finset.card_range n).le

/-- A row's place is the start of its segment and its rank in it. -/
theorem place_eq (n i : ℕ) : place B key n i = start B n (B i) + rk key (mem B n (B i)) i := by
  classical
  unfold place start rk mem
  rw [Finset.filter_filter, ← Finset.card_union_of_disjoint]
  · refine congrArg Finset.card ?_
    ext j
    simp only [Finset.mem_filter, Finset.mem_union, Finset.mem_range]
    unfold before
    tauto
  · rw [Finset.disjoint_filter]
    intro j _ h1 h2
    omega

end Pool

end
-- ==== Proof.RefCount.lean ====
/- The reference's words: the counts of the segments and where each starts. -/
module

public import proofs.«01_k».proof.Proof.RefDef
public import proofs.«01_k».proof.Proof.RefSort
public import proofs.«01_k».proof.Proof.Words
public import Idealize.ShloMosaic.Lib.ValueIdxRank1

@[expose] public section

set_option maxRecDepth 16384

noncomputable section

namespace Cert.ReferenceIdeal.Pool

open Idealize.ShloMosaic Idealize.ShloMosaic.ValueIdx Idealize.ShloMosaic.Routing
open Cert.ReferenceIdeal Cert.ReferenceIdeal.Gen

variable {b : IVec S100000 32} (hb : Pool.Ordered b)

/-- The word of a small number, read signed. -/
theorem toInt_small (k : ℕ) (h : k < 1000000) : (BitVec.ofNat 32 k).toInt = (k : ℤ) := by
  rw [BitVec.toInt_eq_toNat_cond, BitVec.toNat_ofNat]
  have : k % 2 ^ 32 = k := Nat.mod_eq_of_lt (by omega)
  rw [this, if_pos (by omega)]

theorem wrap_at (k : BitVec 32) (v : IVec S100000 32) (i : Fin 100000) (h : (v (ix1 i)).toNat < 2 ^ 31) : wrap k v (ix1 i) = v (ix1 i) :=
  wrap_of_lt (v (ix1 i)) _ h

theorem column_at (v : IVec S100000 32) (i : Fin 100000) : column v (ix2 i (0 : Fin 1)) = v (ix1 i) := bcCol _ v i

include hb in
theorem word_at (i : Fin 100000) : b (ix1 i) = BitVec.ofNat 32 (Pool.segPad b i.val) ∧ Pool.segPad b i.val < 512 := by
  have h : Pool.segPad b i.val = (b (ix1 i)).toNat := by
    unfold Pool.segPad
    rw [dif_pos i.isLt]
  rw [h]
  exact ⟨BitVec.eq_of_toNat_eq (by rw [BitVec.toNat_ofNat, Nat.mod_eq_of_lt (BitVec.isLt _)]), hb.lt i⟩

theorem maxsi_ofNat (j k : ℕ) (hj : j < 1000000) (hk : k < 1000000) : IntOp.maxsi (BitVec.ofNat 32 j) (BitVec.ofNat 32 k) = BitVec.ofNat 32 (max j k) := by
  unfold IntOp.maxsi
  by_cases h : k < j
  · rw [if_pos (by rw [BitVec.slt_iff_toInt_lt, toInt_small _ hj, toInt_small _ hk]; exact_mod_cast h), max_eq_left h.le]
  · rw [if_neg (by rw [BitVec.slt_iff_toInt_lt, toInt_small _ hj, toInt_small _ hk]; exact_mod_cast h), max_eq_right (not_lt.1 h)]

/-- Adding 1 at each hit counts the hits. -/
theorem fold_hits {ι : Type} (l : List ι) (hit : ι → Prop) [DecidablePred hit] (z : ℕ) :
    l.foldl (fun a n => if hit n then IntOp.addi a 1#32 else a) (BitVec.ofNat 32 z) = BitVec.ofNat 32 (z + l.countP (fun n => decide (hit n))) := by
  induction l generalizing z with
  | nil => rfl
  | cons n l ih =>
    rw [List.foldl_cons, List.countP_cons]
    by_cases h : hit n
    · rw [if_pos h, show IntOp.addi (BitVec.ofNat 32 z) 1#32 = BitVec.ofNat 32 (z + 1) from (BitVec.ofNat_add z 1).symm, ih, if_pos (decide_eq_true h)]
      congr 1; omega
    · rw [if_neg h, ih, if_neg (by simpa using h)]
      rfl

include hb in
theorem counts_at (r : Fin 512) : counts b (ix1 r) = BitVec.ofNat 32 (Pool.num (Pool.segPad b) 100000 r.val) := by
  unfold counts
  rw [scatter_at]
  have hit : ∀ n : Fin S100000.numel, scatter_S512_S100000x1_S100000_n_0_0_1.resultIdx? (S100000.rowMajor.symm n)
      (column (wrap 512#32 (maxsi (broadcastInDim S100000 ![] bcast_S_S100000 (id (constantI S_ 32 0#32))) b))) = some (ix1 r) ↔ Pool.segPad b n.val = r.val := fun n => by
    have hs : S100000.rowMajor.symm n = ix1 (n.cast (numel1 100000)) := symm1 n
    obtain ⟨hw, hlt⟩ := word_at hb (n.cast (numel1 100000))
    have hm : maxsi (broadcastInDim S100000 ![] bcast_S_S100000 (id (constantI S_ 32 0#32))) b (ix1 (n.cast (numel1 100000))) = BitVec.ofNat 32 (Pool.segPad b n.val) := by
      show IntOp.maxsi (BitVec.ofNat 32 0) (b (ix1 (n.cast (numel1 100000)))) = _
      rw [hw, maxsi_ofNat _ _ (by omega) (by omega), Nat.zero_max]
      rfl
    have hlt' : Pool.segPad b n.val < 512 := hlt
    rw [hs, lands_count, column_at, wrap_at _ _ _ (by rw [hm, BitVec.toNat_ofNat]; omega), hm, toInt_small _ (by omega)]
    exact Nat.cast_inj
  have e : (fun (a : BitVec 32) (n : Fin S100000.numel) => if scatter_S512_S100000x1_S100000_n_0_0_1.resultIdx? (S100000.rowMajor.symm n)
      (column (wrap 512#32 (maxsi (broadcastInDim S100000 ![] bcast_S_S100000 (id (constantI S_ 32 0#32))) b))) = some (ix1 r)
      then IntOp.addi a (broadcastInDim S100000 ![] bcast_S_S100000 (constantI S_ 32 1#32) (S100000.rowMajor.symm n)) else a)
      = fun a n => if Pool.segPad b n.val = r.val then IntOp.addi a 1#32 else a := funext fun a => funext fun n => if_congr (hit n) rfl rfl
  refine (congrArg (fun f => (List.finRange S100000.numel).foldl f _) e).trans ?_
  refine (fold_hits (List.finRange S100000.numel) (fun n => Pool.segPad b n.val = r.val) 0).trans ?_
  rw [Nat.zero_add, countP_finRange _ (fun i => Pool.segPad b i = r.val), Nat.count_eq_card_filter_range]
  have hN : S100000.numel = 100000 := numel1 100000
  rw [hN]
  rfl

include hb in
theorem starts_at (r : Fin 512) : starts b (ix1 r) = BitVec.ofNat 32 (Pool.start (Pool.segPad b) 100000 r.val) := by
  have h := cumsum1 (N := 512) (Nm1 := 511) rfl (counts b) (Pool.num (Pool.segPad b) 100000) (counts_at hb)
    (broadcastInDim S_ ![] bcast_S_S_ (constantI S_ 32 0#32)) rfl reduceWindows_S512_S512_w512s1p511_0 h_S_ r
  show IntOp.subi (Host.reduceWindow IntOp.addi ![512] ![1] ![511] ![0] (counts b) (broadcastInDim S_ ![] bcast_S_S_ (constantI S_ 32 0#32)) reduceWindows_S512_S512_w512s1p511_0 h_S_ (ix1 r)) (counts b (ix1 r)) = _
  rw [h, counts_at hb, Pool.start_sum, Pool.start_succ]
  have h1 := Pool.start_le (Pool.segPad b) 100000 r.val
  have h2 := Pool.num_le (Pool.segPad b) 100000 r.val
  generalize Pool.start (Pool.segPad b) 100000 r.val = s at h1 ⊢
  generalize Pool.num (Pool.segPad b) 100000 r.val = k at h2 ⊢
  apply BitVec.eq_of_toNat_eq
  simp only [IntOp.subi, BitVec.toNat_sub, BitVec.toNat_ofNat]
  omega

end Cert.ReferenceIdeal.Pool

end
-- ==== Proof.RefOrder.lean ====
/- The reference's order of the rows, and each row's rank in its segment. -/
module

public import proofs.«01_k».proof.Proof.RefCount
public import Idealize.ShloMosaic.PureOps.Ideal.Laws

@[expose] public section

set_option maxRecDepth 16384

noncomputable section

namespace Cert.ReferenceIdeal.Pool

open Idealize.ShloMosaic Idealize.ShloMosaic.ValueIdx Idealize.ShloMosaic.Routing
open Cert.ReferenceIdeal Cert.ReferenceIdeal.Gen

/-- The rows as a function of the row's number, zero past the last; -/
def rowX (x : FVec Ideal S100000x256 .f32) (i : ℕ) (c : Fin 256) : EReal := if h : i < 100000 then x (ix2 ⟨i, h⟩ c) else 0

/-- their keys, the last column. -/
def keyX (x : FVec Ideal S100000x256 .f32) (i : ℕ) : EReal := rowX x i 255

/-- The comparison of two rows: by segment, then by negated key. -/
theorem cmp_iff (p q : ℕ) (hp : p < 1000000) (hq : q < 1000000) (u v : EReal) (w w' : BitVec 32) :
    comparator_i32_f32_i32_d0 (F := Ideal) (BitVec.ofNat 32 p, u, w) (BitVec.ofNat 32 q, v, w') = 1#1 ↔ p < q ∨ (p = q ∧ u < v) := by
  have hz : ∀ y : EReal, Scalar.select (FloatOps.cmpf (F := Ideal) (φ := .f32) .une y y) (FloatOps.ofBits (F := Ideal) .f32 0x7FC00000#32)
      (Scalar.select (FloatOps.cmpf (F := Ideal) (φ := .f32) .oeq y (FloatOps.ofBits (F := Ideal) .f32 0x00000000#32)) (FloatOps.ofBits (F := Ideal) .f32 0x00000000#32) y) = y := fun y => by
    have h1 : FloatOps.cmpf (F := Ideal) (φ := .f32) .une y y = 0#1 := by
      show BitVec.ofBool _ = _
      simp
    have h0 : (FloatOps.ofBits (F := Ideal) .f32 0x00000000#32 : EReal) = 0 := Ideal.ofBits_zero_f32
    rw [h1, Scalar.select, if_neg (by decide), h0]
    by_cases h : y = 0
    · subst h; exact ite_self _
    · refine if_neg ?_
      show ¬ (BitVec.ofBool (decide (y = 0)) = 1#1)
      rw [decide_eq_false h]
      decide
  show IntOp.ori (IntOp.cmpi .slt (BitVec.ofNat 32 p) (BitVec.ofNat 32 q)) (IntOp.andi (IntOp.cmpi .eq (BitVec.ofNat 32 p) (BitVec.ofNat 32 q))
    (FloatOps.cmpfTotal (F := Ideal) (φ := .f32) .lt _ _)) = 1#1 ↔ _
  rw [hz u, hz v]
  have e1 : IntOp.cmpi .slt (BitVec.ofNat 32 p) (BitVec.ofNat 32 q) = BitVec.ofBool (decide (p < q)) := by
    refine congrArg BitVec.ofBool (decide_eq_decide.2 ?_)
    rw [toInt_small _ hp, toInt_small _ hq]
    exact Nat.cast_lt
  have e2 : IntOp.cmpi .eq (BitVec.ofNat 32 p) (BitVec.ofNat 32 q) = BitVec.ofBool (decide (p = q)) := by
    refine congrArg BitVec.ofBool ?_
    rw [Bool.eq_iff_iff, decide_eq_true_iff]
    refine beq_iff_eq.trans ⟨fun h => ?_, fun h => by rw [h]⟩
    have := congrArg BitVec.toInt h
    rw [toInt_small _ hp, toInt_small _ hq] at this
    exact_mod_cast this
  have e3 : FloatOps.cmpfTotal (F := Ideal) (φ := .f32) .lt u v = BitVec.ofBool (decide (u < v)) := by
    rfl
  rw [e1, e2, e3]
  by_cases h1 : p < q <;> by_cases h2 : p = q <;> by_cases h3 : u < v <;> simp [h1, h2, h3, IntOp.ori, IntOp.andi]

variable (x : FVec Ideal S100000x256 .f32) {b : IVec S100000 32} (hb : Pool.Ordered b)

/-- What a sort of three vectors returns of the third: the entry that the order puts there. -/
theorem sort3_last {α β γ : Type} {n : ℕ} (cmp : α × β × γ → α × β × γ → BitVec 1) (u : (shape1 n).Idx → α) (v : (shape1 n).Idx → β) (w : (shape1 n).Idx → γ) (p : Fin n) :
    (Host.sort3 (shape1 n) 0 cmp u v w).2.2 (ix1 p) =
      w (ix1 (sortedFrom (fun k k' => cmp (u (ix1 k), v (ix1 k), w (ix1 k)) (u (ix1 k'), v (ix1 k'), w (ix1 k')) == 1#1) p)) := by
  have e : (fun k : Fin n => Shape.Idx.along (s := shape1 n) (ix1 p) 0 k) = fun k => ix1 k :=
    funext fun k => funext fun a => match a with | ⟨0, _⟩ => Fin.ext rfl
  unfold Host.sort3
  rw [dif_pos (show 0 < (shape1 n).rank from Nat.zero_lt_one)]
  show (fun f : Fin n → (shape1 n).Idx => w (f (sortedFrom (fun k k' => cmp (u (f k), v (f k), w (f k)) (u (f k'), v (f k'), w (f k')) == 1#1) p)))
    (fun k => Shape.Idx.along (s := shape1 n) (ix1 p) 0 k) = _
  rw [e]

/-- Whether row `k` is before row `k'`. -/
def less (b : IVec S100000 32) (k k' : Fin 100000) : Bool :=
  comparator_i32_f32_i32_d0 (F := Ideal) (b (ix1 k), negKeys x (ix1 k), iotaInDim S100000 32 0 (ix1 k))
    (b (ix1 k'), negKeys x (ix1 k'), iotaInDim S100000 32 0 (ix1 k')) == 1#1

/-- The row that the sort puts at position `p`. -/
def src (b : IVec S100000 32) (p : Fin 100000) : Fin 100000 := sortedFrom (less x b) p

theorem src_surjective (b : IVec S100000 32) : Function.Surjective (src x b) := by
  unfold src
  exact sortedFrom_surjective _

theorem order_at (b : IVec S100000 32) (p : Fin 100000) : order x b (ix1 p) = BitVec.ofNat 32 (src x b p).val :=
  sort3_last (comparator_i32_f32_i32_d0 (F := Ideal)) b (negKeys x) (iotaInDim S100000 32 0) p

theorem negKeys_at (k : Fin 100000) : negKeys x (ix1 k) = - keyX x k.val := by
  unfold negKeys keyX rowX
  rw [dif_pos k.isLt]
  refine congrArg (fun y : EReal => -y) ?_
  refine (cast21 (a := 100000) (b := 1) (n := 100000) _ _ k 0 k (by simp)).trans ?_
  unfold extractStridedSlice
  refine congrArg x (funext fun a => Fin.ext ?_)
  match a with
  | ⟨0, _⟩ => exact Nat.zero_add _
  | ⟨1, _⟩ => rfl

include hb in
/-- The position of a row is its place. -/
theorem src_place (p : Fin 100000) : Pool.place (Pool.segPad b) (keyX x) 100000 (src x b p).val = p.val := by
  unfold src
  refine Pool.place_sorted (Pool.segPad b) (keyX x) _ (fun k k' hk => ?_) p
  unfold less
  obtain ⟨h1, l1⟩ := word_at hb k
  obtain ⟨h2, l2⟩ := word_at hb k'
  rw [beq_iff_eq, h1, h2, cmp_iff _ _ (by omega) (by omega), negKeys_at, negKeys_at, EReal.neg_lt_neg_iff]
  unfold Pool.before Pool.beats
  have hk' : k.val < k'.val := hk
  constructor
  · rintro (h | ⟨h, h'⟩)
    · exact .inl h
    · exact .inr ⟨h, .inl h'⟩
  · rintro (h | ⟨h, h' | h'⟩)
    · exact .inl h
    · exact .inr ⟨h, h'⟩
    · omega

end Cert.ReferenceIdeal.Pool

end
-- ==== Proof.RefRank.lean ====
/- What the reference reads in its order: the rows, their segments and their ranks, and where it writes them. -/
module

public import proofs.«01_k».proof.Proof.RefOrder
public import Idealize.ShloMosaic.Lib.Pipeline.Value

@[expose] public section

set_option maxRecDepth 16384

noncomputable section

namespace Cert.ReferenceIdeal.Pool

open Idealize.ShloMosaic Idealize.ShloMosaic.ValueIdx Idealize.ShloMosaic.Routing
open Cert.ReferenceIdeal Cert.ReferenceIdeal.Gen

variable (x : FVec Ideal S100000x256 .f32) {b : IVec S100000 32} (hb : Pool.Ordered b)

/-- A small word is small. -/
theorem toNat_small (k : ℕ) (h : k < 1000000) : (BitVec.ofNat 32 k).toNat < 2 ^ 31 := by
  rw [BitVec.toNat_ofNat, Nat.mod_eq_of_lt (by omega)]
  omega

theorem sub_words {s r a : ℕ} (h : s + r = a) : IntOp.subi (BitVec.ofNat 32 a) (BitVec.ofNat 32 s) = BitVec.ofNat 32 r := by
  subst h
  show BitVec.ofNat 32 (s + r) - BitVec.ofNat 32 s = _
  rw [Nat.add_comm, BitVec.ofNat_add, BitVec.add_sub_cancel]

theorem column_order (b : IVec S100000 32) (p : Fin 100000) : column (wrap 100000#32 (order x b)) (ix2 p (0 : Fin 1)) = BitVec.ofNat 32 (src x b p).val := by
  rw [column_at, wrap_at _ _ _ (by rw [order_at]; exact toNat_small _ (by have := (src x b p).isLt; omega)), order_at]

theorem rows_at (b : IVec S100000 32) (p : Fin 100000) (c : Fin 256) : rows x b (ix2 p c) = x (ix2 (src x b p) c) :=
  gather_row gather_S100000x256_S100000x1_S100000x256_1_0_n_n_0_1_1256 rfl rfl rfl rfl rfl x _ p c _ (column_order x b p) (by omega)

theorem segs_src (b : IVec S100000 32) (p : Fin 100000) : segs x b (ix1 p) = b (ix1 (src x b p)) :=
  gather_take1 gather_S100000_S100000x1_S100000_n_0_n_n_0_1_1 rfl rfl rfl rfl b _ p _ (column_order x b p) (by omega)

/-- The segment of the row at position `p`, -/
def segAt (b : IVec S100000 32) (p : Fin 100000) : ℕ := Pool.segPad b (src x b p).val

/-- and its rank there. -/
def rankAt (b : IVec S100000 32) (p : Fin 100000) : ℕ := Pool.rk (keyX x) (Pool.mem (Pool.segPad b) 100000 (segAt x b p)) (src x b p).val

include hb in
theorem segs_at (p : Fin 100000) : segs x b (ix1 p) = BitVec.ofNat 32 (segAt x b p) ∧ segAt x b p < 512 := by
  rw [segs_src]
  exact word_at hb _

include hb in
theorem rank_place (p : Fin 100000) : Pool.start (Pool.segPad b) 100000 (segAt x b p) + rankAt x b p = p.val :=
  (Pool.place_eq _ _ _ _).symm.trans (src_place x hb p)

include hb in
theorem ranks_at (p : Fin 100000) : ranks x b (ix1 p) = BitVec.ofNat 32 (rankAt x b p) := by
  obtain ⟨hs, hl⟩ := segs_at x hb p
  have hc : column (wrap 512#32 (segs x b)) (ix2 p (0 : Fin 1)) = BitVec.ofNat 32 (⟨segAt x b p, hl⟩ : Fin 512).val := by
    rw [column_at, wrap_at _ _ _ (by rw [hs]; exact toNat_small _ (by omega)), hs]
  have hg := gather_take1 gather_S512_S100000x1_S100000_n_0_n_n_0_1_1 rfl rfl rfl rfl (starts b) _ p _ hc (by omega)
  rw [starts_at hb] at hg
  show IntOp.subi (BitVec.ofNat 32 p.val) (Host.gather gather_S512_S100000x1_S100000_n_0_n_n_0_1_1 (starts b) (column (wrap 512#32 (segs x b))) (ix1 p)) = _
  rw [hg]
  dsimp only
  exact sub_words (rank_place x hb p)

include hb in
theorem rank_lt (p : Fin 100000) : rankAt x b p < 100000 := by
  have h := rank_place x hb p
  have hp := p.isLt
  omega

include hb in
theorem keep_at (p : Fin 100000) : keep x b (ix1 p) = BitVec.ofBool (decide (rankAt x b p < 3)) := by
  have hr := rank_lt x hb p
  show IntOp.cmpi .slt (ranks x b (ix1 p)) 3#32 = _
  rw [ranks_at x hb p]
  refine congrArg BitVec.ofBool (decide_eq_decide.2 ?_)
  rw [toInt_small _ (by omega), show (3#32 : BitVec 32).toInt = ((3 : ℕ) : ℤ) from rfl]
  exact Nat.cast_lt

include hb in
/-- The segment index of a write: past the last for a rank of 3 or more. -/
theorem rowIx_at (p : Fin 100000) : rowIx x b (ix1 p) = BitVec.ofNat 32 (if rankAt x b p < 3 then segAt x b p else 512) := by
  show Scalar.select (keep x b (ix1 p)) (segs x b (ix1 p)) 512#32 = _
  rw [keep_at x hb p, (segs_at x hb p).1]
  by_cases h : rankAt x b p < 3 <;> simp [h, Scalar.select]

include hb in
/-- The rank index of a write. -/
theorem colIx_at (p : Fin 100000) : colIx x b (ix1 p) = BitVec.ofNat 32 (if rankAt x b p < 3 then rankAt x b p else 0) := by
  show Scalar.select (keep x b (ix1 p)) (ranks x b (ix1 p)) 0#32 = _
  rw [keep_at x hb p, ranks_at x hb p]
  by_cases h : rankAt x b p < 3 <;> simp [h, Scalar.select]

include hb in
theorem pairs_row (p : Fin 100000) : (pairs x b (ix2 p (0 : Fin 2))).toInt = ((if rankAt x b p < 3 then segAt x b p else 512 : ℕ) : ℤ) := by
  have hl := (segs_at x hb p).2
  have hs : (if rankAt x b p < 3 then segAt x b p else 512) < 1000000 := by split <;> omega
  have h : pairs x b (ix2 p (0 : Fin 2)) = column (wrap 512#32 (rowIx x b)) (ix2 p (0 : Fin 1)) :=
    concatenate_pair_apply_left 1 _ _ concatenates_S100000x1_S100000x1_S100000x2_d1 _ rfl _ fun a => match a with | ⟨0, _⟩ => rfl | ⟨1, _⟩ => rfl
  rw [h, column_at, wrap_at _ _ _ (by rw [rowIx_at x hb p]; exact toNat_small _ hs), rowIx_at x hb p, toInt_small _ hs]

include hb in
theorem pairs_col (p : Fin 100000) : (pairs x b (ix2 p (1 : Fin 2))).toInt = ((if rankAt x b p < 3 then rankAt x b p else 0 : ℕ) : ℤ) := by
  have hs : (if rankAt x b p < 3 then rankAt x b p else 0) < 1000000 := by split <;> omega
  have h : pairs x b (ix2 p (1 : Fin 2)) = column (wrap 3#32 (colIx x b)) (ix2 p (0 : Fin 1)) :=
    concatenate_pair_apply_right 1 _ _ concatenates_S100000x1_S100000x1_S100000x2_d1 _ rfl rfl _ (fun a ha => match a with | ⟨0, _⟩ => rfl | ⟨1, _⟩ => (ha rfl).elim) rfl
  rw [h, column_at, wrap_at _ _ _ (by rw [colIx_at x hb p]; exact toNat_small _ hs), colIx_at x hb p, toInt_small _ hs]

end Cert.ReferenceIdeal.Pool

end
-- ==== Proof.Stage.lean ====
/- What the vector stages of one window of segments compute at a row, at extended reals: a pick over the block's rows,
   a pick over eight lanes, and the rows taken for a place among the first three. -/
module

public import proofs.«01_k».proof.Proof.Gen.KernelIdeal.Skeleton
public import proofs.«01_k».proof.Proof.Spec
public import Idealize.ShloMosaic.Lib.Pointwise

@[expose] public section

set_option maxRecDepth 16384

noncomputable section

namespace Cert.KernelIdeal.Pool

open Cert.KernelIdeal Cert.KernelIdeal.Gen Idealize.ShloMosaic

/-- A choice by a decided bit. -/
theorem sel_dec {α : Type} (P : Prop) [Decidable P] (x y : α) : Scalar.select (BitVec.ofBool (decide P)) x y = if P then x else y := by
  by_cases h : P <;> simp [h, Scalar.select]

/-- The conjunction of decided bits. -/
theorem and_dec (P Q : Prop) [Decidable P] [Decidable Q] :
    IntOp.andi (BitVec.ofBool (decide P)) (BitVec.ofBool (decide Q)) = BitVec.ofBool (decide (P ∧ Q)) := by
  by_cases h : P <;> by_cases h' : Q <;> simp [h, h', IntOp.andi]

/-- The negation of a decided bit. -/
theorem not_dec (P : Prop) [Decidable P] : IntOp.xori (BitVec.ofBool (decide P)) 1#1 = BitVec.ofBool (decide (¬ P)) := by
  by_cases h : P <;> simp [h, IntOp.xori]

/-- A decided bit, widened, as an extended real. -/
theorem sit_dec (P : Prop) [Decidable P] :
    FloatOps.sitofp (F := Ideal) .f32 (BitVec.setWidth 32 (BitVec.ofBool (decide P))) = Pool.ind P := by
  show (((BitVec.setWidth 32 (BitVec.ofBool (decide P))).toInt : ℝ) : EReal) = Pool.ind P
  by_cases h : P
  · simp [h, Pool.ind]
  · simp [h, Pool.ind]

/-- The comparison of words for equality, decided. -/
theorem eq_dec {n : ℕ} (a b : BitVec n) : IntOp.cmpi .eq a b = BitVec.ofBool (decide (a = b)) := by
  show BitVec.ofBool (a == b) = _
  by_cases h : a = b
  · simp [h]
  · rw [beq_eq_false_iff_ne.mpr h, decide_eq_false h]

theorem ofBits_ninf : Ideal.ofBits .f32 4286578688#32 = ⊥ := by simp [Ideal.ofBits, Ideal.ieee]
theorem ofBits_pinf : Ideal.ofBits .f32 2139095040#32 = ⊤ := by simp [Ideal.ofBits, Ideal.ieee]
theorem ofBits_big : Ideal.ofBits .f32 1315859240#32 = Pool.big := by
  simp only [Ideal.ofBits, Ideal.ieee, Pool.big]
  norm_num [Nat.shiftRight_eq_div_pow, BitVec.extractLsb']
theorem ofBits_2048 : Ideal.ofBits .f32 1157627904#32 = ((2048 : ℝ) : EReal) := by
  simp only [Ideal.ofBits, Ideal.ieee]
  norm_num [Nat.shiftRight_eq_div_pow, BitVec.extractLsb']

variable {F : FTy → Type} [FloatOps F]

/-- The greatest key of the active rows, per segment. -/
def rmax (kj : FVec F S1x2048 .f32) (a : IVec S32x2048 1) : FVec F S32x1 .f32 :=
  shapeCast S32x1 (multiReduction .maximumf [1] S32 (select a
    (broadcastTo S32x2048 (shapeCast S1x2048 kj shapeCasts_S1x2048_S1x2048) broadcasts_S1x2048_S32x2048)
    (broadcast S32x2048 (Scalar.ofBits .f32 0xFF800000#32) : FVec F S32x2048 .f32)) 0xFF800000#32 reduces_S32x2048_S32 (.inl rfl) rfl) shapeCasts_S32_S32x1

/-- The active rows that have it. -/
def rhas (kj : FVec F S1x2048 .f32) (a : IVec S32x2048 1) : IVec S32x2048 1 :=
  andi a (cmpf .oeq (broadcastTo S32x2048 kj broadcasts_S1x2048_S32x2048) (broadcastTo S32x2048 (rmax kj a) broadcasts_S32x1_S32x2048))

/-- The least number among them, per segment. -/
def rmin (kj idx : FVec F S1x2048 .f32) (a : IVec S32x2048 1) : FVec F S32x1 .f32 :=
  shapeCast S32x1 (multiReduction .minimumf [1] S32 (select (rhas kj a)
    (broadcastTo S32x2048 (shapeCast S1x2048 idx shapeCasts_S1x2048_S1x2048) broadcasts_S1x2048_S32x2048)
    (broadcast S32x2048 (Scalar.ofBits .f32 0x4E6E6B28#32) : FVec F S32x2048 .f32)) 0x7F800000#32 reduces_S32x2048_S32 (.inl rfl) rfl) shapeCasts_S32_S32x1

/-- The active rows without that one. -/
def rnext (kj idx : FVec F S1x2048 .f32) (a : IVec S32x2048 1) : IVec S32x2048 1 :=
  andi a (xori (andi (rhas kj a) (cmpf .oeq (broadcastTo S32x2048 idx broadcasts_S1x2048_S32x2048) (broadcastTo S32x2048 (rmin kj idx a) broadcasts_S32x1_S32x2048)))
    (constantI S32x2048 1 1#1))

theorem fold_max_bot {ι : Type} [Fintype ι] (f : ι → EReal) : Finset.fold max (⊥ : EReal) f Finset.univ = Finset.univ.sup f := rfl
theorem fold_min_top {ι : Type} [Fintype ι] (f : ι → EReal) : Finset.fold min (⊤ : EReal) f Finset.univ = Finset.univ.inf f := rfl

set_option maxRecDepth 16384 in
/-- A pick over the block's rows of a segment: the first of the active rows, and the active rows without it. -/
theorem round_spec (key : ℕ → EReal) (kj idx : FVec Ideal S1x2048 .f32) (a : IVec S32x2048 1) (p : Fin 32) (n : ℕ)
    (hn : n + 2048 < 1000000000) (opt : Fin 2048 → Option ℕ) (A : Finset ℕ) (hA : ∀ i, i ∈ A ↔ ∃ j, opt j = some i)
    (hopt : ∀ j i, opt j = some i → i = n + j) (hkj : ∀ j : Fin 2048, kj (ix2 0 j) = key (n + j))
    (hidx : ∀ j : Fin 2048, idx (ix2 0 j) = (((n + j : ℕ) : ℝ) : EReal))
    (ha : ∀ j, a (ix2 p j) = BitVec.ofBool (decide (opt j ≠ none))) :
    ∃ o, rmax kj a (ix2 p 0) = Pool.kOf key o ∧ rmin kj idx a (ix2 p 0) = Pool.iOf o ∧ Pool.Pick key A o ∧
      ∀ j, rnext kj idx a (ix2 p j) = BitVec.ofBool (decide (Pool.without o (opt j) ≠ none)) := by
  have hb : ∀ l i, opt l = some i → i < 1000000000 := fun l i h => by have := hopt l i h; have := l.isLt; omega
  have hmax : rmax kj a (ix2 p 0) = Finset.univ.sup fun l => Pool.kOf key (opt l) := by
    pointwise [rmax]
    simp only [ha, hkj, sel_dec, ofBits_ninf, fold_max_bot]
    congr 1
    funext l
    cases e : opt l with
    | none => simp [Pool.kOf]
    | some i => simp [Pool.kOf, hopt l i e]
  have hhas : ∀ j, rhas kj a (ix2 p j) = BitVec.ofBool (decide (opt j ≠ none ∧ key (n + j) = rmax kj a (ix2 p 0))) := fun j => by
    pointwise [rhas]
    rw [ha, hkj, and_dec]
  have hmin : rmin kj idx a (ix2 p 0) = Finset.univ.inf fun l => if Pool.kOf key (opt l) = rmax kj a (ix2 p 0) then Pool.iOf (opt l) else Pool.big := by
    pointwise [rmin]
    simp only [hhas, hidx, sel_dec, ofBits_pinf, ofBits_big, fold_min_top]
    refine congrArg (Finset.inf Finset.univ) (funext fun l => ?_)
    cases e : opt l with
    | none => simp [Pool.iOf]
    | some i => simp [Pool.kOf, Pool.iOf, hopt l i e]
  obtain ⟨o, h1, h2, h3⟩ := Pool.pick_family key opt hb A hA hmax hmin
  refine ⟨o, h1, h2, h3, fun j => ?_⟩
  have hob : ∀ i, o = some i → i < 1000000000 := fun i h => by
    obtain ⟨j, hj⟩ := (hA i).1 ((Pool.pick_iff key h3 i).1 h).1
    exact hb j i hj
  pointwise [rnext]
  rw [hhas, ha, hidx, h1, h2, and_dec, not_dec, and_dec]
  refine congrArg BitVec.ofBool (decide_eq_decide.2 ?_)
  cases e : opt j with
  | none => simp [Pool.without]
  | some i =>
    have hi := hopt j i e
    constructor
    · rintro ⟨_, hx⟩ hw
      refine hx ⟨⟨by simp, ?_⟩, ?_⟩ <;>
      · unfold Pool.without at hw
        split at hw
        · rename_i he
          rw [← he, hi]
          rfl
        · exact absurd hw (by simp)
    · intro hw
      refine ⟨by simp, fun hx => hw ?_⟩
      have : some i = o := Pool.iOf_inj (fun _ h => hb j _ (e.trans h)) hob (by rw [hi]; exact hx.2)
      unfold Pool.without
      rw [if_pos this]

/-- The greatest key of eight lanes, per segment. -/
def mmax (ck : FVec F S32x8 .f32) : FVec F S32x1 .f32 :=
  shapeCast S32x1 (multiReduction .maximumf [1] S32 ck 0xFF800000#32 reduces_S32x8_S32 (.inl rfl) rfl) shapeCasts_S32_S32x1

/-- The least number among the lanes that have it. -/
def mmin (ck ci : FVec F S32x8 .f32) : FVec F S32x1 .f32 :=
  shapeCast S32x1 (multiReduction .minimumf [1] S32 (select (cmpf .oeq ck (broadcastTo S32x8 (mmax ck) broadcasts_S32x1_S32x8)) ci
    (broadcast S32x8 (Scalar.ofBits .f32 0x4E6E6B28#32) : FVec F S32x8 .f32)) 0x7F800000#32 reduces_S32x8_S32 (.inl rfl) rfl) shapeCasts_S32_S32x1

/-- The lanes that hold the pick. -/
def mkill (ck ci : FVec F S32x8 .f32) : IVec S32x8 1 :=
  andi (cmpf .oeq ck (broadcastTo S32x8 (mmax ck) broadcasts_S32x1_S32x8)) (cmpf .oeq ci (broadcastTo S32x8 (mmin ck ci) broadcasts_S32x1_S32x8))

/-- The keys left after the pick. -/
def mck (ck ci : FVec F S32x8 .f32) : FVec F S32x8 .f32 :=
  select (mkill ck ci) (broadcast S32x8 (Scalar.ofBits .f32 0xFF800000#32) : FVec F S32x8 .f32) ck

/-- The numbers left after the pick. -/
def mci (ck ci : FVec F S32x8 .f32) : FVec F S32x8 .f32 :=
  select (mkill ck ci) (broadcast S32x8 (Scalar.ofBits .f32 0x4E6E6B28#32) : FVec F S32x8 .f32) ci

/-- A pick over eight lanes: the first of what they hold, and the lanes without it. -/
theorem merge_spec (key : ℕ → EReal) (ck ci : FVec Ideal S32x8 .f32) (p : Fin 32)
    (opt : Fin 8 → Option ℕ) (A : Finset ℕ) (hA : ∀ i, i ∈ A ↔ ∃ j, opt j = some i)
    (hb : ∀ l i, opt l = some i → i < 1000000000) (hck : ∀ l, ck (ix2 p l) = Pool.kOf key (opt l))
    (hci : ∀ l, ci (ix2 p l) = Pool.iOf (opt l)) :
    ∃ o, mmax ck (ix2 p 0) = Pool.kOf key o ∧ mmin ck ci (ix2 p 0) = Pool.iOf o ∧ Pool.Pick key A o ∧
      ∀ l, mck ck ci (ix2 p l) = Pool.kOf key (Pool.without o (opt l)) ∧ mci ck ci (ix2 p l) = Pool.iOf (Pool.without o (opt l)) := by
  have hmax : mmax ck (ix2 p 0) = Finset.univ.sup fun l => Pool.kOf key (opt l) := by
    pointwise [mmax]
    simp only [hck, ofBits_ninf, fold_max_bot]
  have hmin : mmin ck ci (ix2 p 0) = Finset.univ.inf fun l => if Pool.kOf key (opt l) = mmax ck (ix2 p 0) then Pool.iOf (opt l) else Pool.big := by
    pointwise [mmin]
    simp only [hck, hci, sel_dec, ofBits_pinf, ofBits_big, fold_min_top]
  obtain ⟨o, h1, h2, h3⟩ := Pool.pick_family key opt hb A hA hmax hmin
  have hob : ∀ i, o = some i → i < 1000000000 := fun i h => by
    obtain ⟨j, hj⟩ := (hA i).1 ((Pool.pick_iff key h3 i).1 h).1
    exact hb j i hj
  have hkill : ∀ l, mkill ck ci (ix2 p l) = BitVec.ofBool (decide (opt l = o)) := fun l => by
    pointwise [mkill]
    rw [hck, hci, h1, h2, and_dec]
    refine congrArg BitVec.ofBool (decide_eq_decide.2 ⟨fun h => Pool.iOf_inj (hb l) hob h.2, fun h => by rw [h]; exact ⟨rfl, rfl⟩⟩)
  refine ⟨o, h1, h2, h3, fun l => ⟨?_, ?_⟩⟩
  · pointwise [mck]
    rw [hkill, sel_dec, ofBits_ninf, hck]
    unfold Pool.without
    split_ifs <;> rfl
  · pointwise [mci]
    rw [hkill, sel_dec, ofBits_big, hci]
    unfold Pool.without
    split_ifs <;> rfl

end Cert.KernelIdeal.Pool

end
-- ==== Proof.Row.lean ====
/- One window of segments, one block of rows, at one row of the window: what the three kept rows become, and the rows
   of `x` taken for them, at extended reals. -/
module

public import proofs.«01_k».proof.Proof.Stage

@[expose] public section

set_option maxRecDepth 16384

noncomputable section

namespace Cert.KernelIdeal.Pool

open Cert.KernelIdeal Cert.KernelIdeal.Gen Idealize.ShloMosaic

variable {F : FTy → Type} [FloatOps F]

/-- The number of each of eight lanes. -/
abbrev lane8 : IVec S32x8 32 := iota .tc S32x8 32 [1] iota_S32x8_d1_w32
/-- The number of each of 128 lanes. -/
abbrev lane128 : IVec S32x128 32 := iota .tc S32x128 32 [1] iota_S32x128_d1_w32

section defs
variable (kj idx : FVec F S1x2048 .f32) (m0 : IVec S32x2048 1) (P : Vec F S32x128 .f32)

/-- The active rows after `t` picks. -/
def act : ℕ → IVec S32x2048 1
  | 0 => m0
  | t + 1 => rnext kj idx (act t)

/-- The keys of the three picks of the block and of the three kept rows. -/
def ck0 : FVec F S32x8 .f32 :=
  k0_pay26 lane8 (rmax kj (act kj idx m0 2)) (k0_pay20 P) (k0_pay25 lane8 (rmax kj (act kj idx m0 0)) (rmax kj (act kj idx m0 1)) P)
/-- Their numbers. -/
def ci0 : FVec F S32x8 .f32 :=
  k0_pay27 lane8 (rmin kj idx (act kj idx m0 2)) (k0_pay22 P) (k0_pay23 P)
    (k0_pay24 lane8 (rmin kj idx (act kj idx m0 0)) (rmin kj idx (act kj idx m0 1)) P) 4#32

/-- Keys and numbers after `t` picks. -/
def lanes : ℕ → FVec F S32x8 .f32 × FVec F S32x8 .f32
  | 0 => (ck0 kj idx m0 P, ci0 kj idx m0 P)
  | t + 1 => (mck (lanes t).1 (lanes t).2, mci (lanes t).1 (lanes t).2)

/-- The key of pick `t`. -/
def pickK (t : ℕ) : FVec F S32x1 .f32 := mmax (lanes kj idx m0 P t).1
/-- The number of pick `t`. -/
def pickI (t : ℕ) : FVec F S32x1 .f32 := mmin (lanes kj idx m0 P t).1 (lanes kj idx m0 P t).2

/-- The lanes kept for the next block. -/
def newTop : FVec F S32x128 .f32 :=
  k0_pay43 lane128 (k0_pay39 lane128 (pickI kj idx m0 P 0) (lanes kj idx m0 P 1).1 (lanes kj idx m0 P 1).2
      (k0_pay33 lane8 (rmax kj (act kj idx m0 2)) (k0_pay20 P) (k0_pay25 lane8 (rmax kj (act kj idx m0 0)) (rmax kj (act kj idx m0 1)) P)))
    (pickK kj idx m0 P 2) (pickI kj idx m0 P 2)

/-- The rows taken for pick `t`. -/
def slotV (q : FVec F S2048x256 .bf16) (blo : F .f32) (q0 q1 q2 : FVec F S32x256 .f32) (t : ℕ) : FVec F S32x256 .f32 :=
  k0_pay54 q idx blo (k0_pay18 P) (k0_pay19 P) (k0_pay20 P) (k0_pay21 P) (k0_pay22 P) (k0_pay23 P)
    (pickK kj idx m0 P t) (pickI kj idx m0 P t) q0 q1 q2

end defs

variable (B : ℕ → ℕ) (X : ℕ → Fin 256 → EReal) (key : ℕ → EReal)

/-- Lane `l` of the kept lanes, as a column. -/
theorem prev_lane (P : Vec Ideal S32x128 .f32) (p : Fin 32) :
    k0_pay18 P (ix2 p 0) = P (ix2 p 0) ∧ k0_pay19 P (ix2 p 0) = P (ix2 p 1) ∧ k0_pay20 P (ix2 p 0) = P (ix2 p 2)
    ∧ k0_pay21 P (ix2 p 0) = P (ix2 p 3) ∧ k0_pay22 P (ix2 p 0) = P (ix2 p 4) ∧ k0_pay23 P (ix2 p 0) = P (ix2 p 5) := by
  refine ⟨?_, ?_, ?_, ?_, ?_, ?_⟩
  · pointwise [k0_pay18]
  · pointwise [k0_pay19]
  · pointwise [k0_pay20]
  · pointwise [k0_pay21]
  · pointwise [k0_pay22]
  · pointwise [k0_pay23]

theorem sel_lit {α : Type} {a b : ℕ} (x y : α) (ha : a < 2 ^ 32) (hb : b < 2 ^ 32) :
    Scalar.select (IntOp.cmpi .eq (BitVec.ofNat 32 a) (BitVec.ofNat 32 b)) x y = if a = b then x else y := by
  rw [eq_dec, sel_dec]
  refine if_congr ⟨fun h => ?_, fun h => by rw [h]⟩ rfl rfl
  have := congrArg BitVec.toNat h
  rwa [BitVec.toNat_ofNat, BitVec.toNat_ofNat, Nat.mod_eq_of_lt ha, Nat.mod_eq_of_lt hb] at this

/-- What the six lanes at the start of the merge hold: the three picks of the block, then the three kept rows. -/
def six (a b : Fin 3 → Option ℕ) : Fin 8 → Option ℕ := ![a 0, a 1, a 2, b 0, b 1, b 2, none, none]

theorem six_mem (a b : Fin 3 → Option ℕ) (i : ℕ) : (∃ l, six a b l = some i) ↔ ∃ t, a t = some i ∨ b t = some i := by
  constructor
  · rintro ⟨l, h⟩
    fin_cases l
    · exact ⟨0, .inl h⟩
    · exact ⟨1, .inl h⟩
    · exact ⟨2, .inl h⟩
    · exact ⟨0, .inr h⟩
    · exact ⟨1, .inr h⟩
    · exact ⟨2, .inr h⟩
    · exact absurd h (by simp [six])
    · exact absurd h (by simp [six])
  · rintro ⟨t, h | h⟩
    · fin_cases t
      · exact ⟨0, h⟩
      · exact ⟨1, h⟩
      · exact ⟨2, h⟩
    · fin_cases t
      · exact ⟨3, h⟩
      · exact ⟨4, h⟩
      · exact ⟨5, h⟩

theorem ck0_lane (kj idx : FVec Ideal S1x2048 .f32) (m0 : IVec S32x2048 1) (P : Vec Ideal S32x128 .f32) (p : Fin 32)
    (a b : Fin 3 → Option ℕ) (ha : ∀ t : Fin 3, rmax kj (act kj idx m0 t) (ix2 p 0) = Pool.kOf key (a t))
    (hb0 : P (ix2 p 0) = Pool.kOf key (b 0)) (hb1 : P (ix2 p 1) = Pool.kOf key (b 1)) (hb2 : P (ix2 p 2) = Pool.kOf key (b 2)) (l : Fin 8) :
    ck0 kj idx m0 P (ix2 p l) = Pool.kOf key (six a b l) := by
  have h0 := ha 0; have h1 := ha 1; have h2 := ha 2
  simp only [Fin.val_zero, Fin.val_one, Fin.val_two] at h0 h1 h2
  obtain ⟨e0, e1, e2, -⟩ := prev_lane P p
  pointwise [ck0, k0_pay26, k0_pay25]
  rw [e0, e1, e2, hb0, hb1, hb2, h0, h1, h2, ofBits_ninf]
  have hl : (l : ℕ) < 2 ^ 32 := by have := l.isLt; omega
  simp only [sel_lit _ _ hl (show (0:ℕ) < 2 ^ 32 by norm_num), sel_lit _ _ hl (show (1:ℕ) < 2 ^ 32 by norm_num), sel_lit _ _ hl (show (2:ℕ) < 2 ^ 32 by norm_num), sel_lit _ _ hl (show (3:ℕ) < 2 ^ 32 by norm_num), sel_lit _ _ hl (show (4:ℕ) < 2 ^ 32 by norm_num), sel_lit _ _ hl (show (5:ℕ) < 2 ^ 32 by norm_num)]
  fin_cases l <;> simp [six, Pool.kOf]

theorem ci0_lane (kj idx : FVec Ideal S1x2048 .f32) (m0 : IVec S32x2048 1) (P : Vec Ideal S32x128 .f32) (p : Fin 32)
    (a b : Fin 3 → Option ℕ) (ha : ∀ t : Fin 3, rmin kj idx (act kj idx m0 t) (ix2 p 0) = Pool.iOf (a t))
    (hb0 : P (ix2 p 3) = Pool.iOf (b 0)) (hb1 : P (ix2 p 4) = Pool.iOf (b 1)) (hb2 : P (ix2 p 5) = Pool.iOf (b 2)) (l : Fin 8) :
    ci0 kj idx m0 P (ix2 p l) = Pool.iOf (six a b l) := by
  have h0 := ha 0; have h1 := ha 1; have h2 := ha 2
  simp only [Fin.val_zero, Fin.val_one, Fin.val_two] at h0 h1 h2
  obtain ⟨-, -, -, e0, e1, e2⟩ := prev_lane P p
  pointwise [ci0, k0_pay27, k0_pay24]
  rw [e0, e1, e2, hb0, hb1, hb2, h0, h1, h2, ofBits_big]
  have hl : (l : ℕ) < 2 ^ 32 := by have := l.isLt; omega
  simp only [sel_lit _ _ hl (show (0:ℕ) < 2 ^ 32 by norm_num), sel_lit _ _ hl (show (1:ℕ) < 2 ^ 32 by norm_num), sel_lit _ _ hl (show (2:ℕ) < 2 ^ 32 by norm_num), sel_lit _ _ hl (show (3:ℕ) < 2 ^ 32 by norm_num), sel_lit _ _ hl (show (4:ℕ) < 2 ^ 32 by norm_num), sel_lit _ _ hl (show (5:ℕ) < 2 ^ 32 by norm_num)]
  fin_cases l <;> simp [six, Pool.iOf]

/-- The lanes kept for the next block hold the three picks' keys, then their numbers. -/
theorem newTop_lane (kj idx : FVec Ideal S1x2048 .f32) (m0 : IVec S32x2048 1) (P : Vec Ideal S32x128 .f32) (p : Fin 32) :
    newTop kj idx m0 P (ix2 p 0) = pickK kj idx m0 P 0 (ix2 p 0) ∧ newTop kj idx m0 P (ix2 p 1) = pickK kj idx m0 P 1 (ix2 p 0)
    ∧ newTop kj idx m0 P (ix2 p 2) = pickK kj idx m0 P 2 (ix2 p 0) ∧ newTop kj idx m0 P (ix2 p 3) = pickI kj idx m0 P 0 (ix2 p 0)
    ∧ newTop kj idx m0 P (ix2 p 4) = pickI kj idx m0 P 1 (ix2 p 0) ∧ newTop kj idx m0 P (ix2 p 5) = pickI kj idx m0 P 2 (ix2 p 0) := by
  have e0 : k0_pay28 lane8 (rmax kj (act kj idx m0 2)) (k0_pay20 P) (k0_pay25 lane8 (rmax kj (act kj idx m0 0)) (rmax kj (act kj idx m0 1)) P)
      = pickK kj idx m0 P 0 := rfl
  have e1 : k0_pay34 (lanes kj idx m0 P 1).1 = pickK kj idx m0 P 1 := rfl
  have e2 : k0_pay35 (lanes kj idx m0 P 1).1 (lanes kj idx m0 P 1).2 = pickI kj idx m0 P 1 := rfl
  refine ⟨?_, ?_, ?_, ?_, ?_, ?_⟩ <;>
  · pointwise [newTop, k0_pay43, k0_pay39, k0_pay33]
    try simp [Scalar.select, IntOp.cmpi, e0, e1, e2]

/-- The rows taken for a pick, at a row of the window. -/
theorem slot_at (q : FVec Ideal S2048x256 .bf16) (idx : FVec Ideal S1x2048 .f32) (blo : Ideal .f32) (P : Vec Ideal S32x128 .f32)
    (ms is : FVec Ideal S32x1 .f32) (q0 q1 q2 : FVec Ideal S32x256 .f32) (p : Fin 32) (c : Fin 256) :
    k0_pay54 q idx blo (k0_pay18 P) (k0_pay19 P) (k0_pay20 P) (k0_pay21 P) (k0_pay22 P) (k0_pay23 P) ms is q0 q1 q2 (ix2 p c)
    = (∑ j : Fin 2048, Pool.ind (idx (ix2 0 j) = is (ix2 p 0) ∧ blo ≤ is (ix2 p 0)) * q (ix2 j c))
      + Pool.ind (¬ blo ≤ is (ix2 p 0) ∧ ms (ix2 p 0) = P (ix2 p 0) ∧ is (ix2 p 0) = P (ix2 p 3)) * q0 (ix2 p c)
      + Pool.ind (¬ blo ≤ is (ix2 p 0) ∧ ms (ix2 p 0) = P (ix2 p 1) ∧ is (ix2 p 0) = P (ix2 p 4)) * q1 (ix2 p c)
      + Pool.ind (¬ blo ≤ is (ix2 p 0) ∧ ms (ix2 p 0) = P (ix2 p 2) ∧ is (ix2 p 0) = P (ix2 p 5)) * q2 (ix2 p c) := by
  obtain ⟨h0, h1, h2, h3, h4, h5⟩ := prev_lane P p
  pointwise [k0_pay54]
  simp only [and_dec, not_dec, sit_dec, h0, h1, h2, h3, h4, h5, and_assoc]

/-- What one block does to the three rows kept for segment `r`, and the rows of `x` taken for them. -/
theorem row_top (kj idx : FVec Ideal S1x2048 .f32) (m0 : IVec S32x2048 1) (P : Vec Ideal S32x128 .f32)
    (q : FVec Ideal S2048x256 .bf16) (blo : Ideal .f32) (q0 q1 q2 : FVec Ideal S32x256 .f32) (p : Fin 32) (n r : ℕ)
    (hn : n + 2048 < 1000000000) (hkj : ∀ j : Fin 2048, kj (ix2 0 j) = key (n + j))
    (hidx : ∀ j : Fin 2048, idx (ix2 0 j) = (((n + j : ℕ) : ℝ) : EReal)) (hblo : blo = ((n : ℝ) : EReal))
    (hm : ∀ j, m0 (ix2 p j) = BitVec.ofBool (decide (Pool.blkOpt B n r j ≠ none)))
    (hq : ∀ (j : Fin 2048) (c : Fin 256), q (ix2 j c) = X (n + j) c)
    (b : Fin 3 → Option ℕ) (hb : Pool.Chain key (Pool.mem B n r) b)
    (hP0 : P (ix2 p 0) = Pool.kOf key (b 0)) (hP1 : P (ix2 p 1) = Pool.kOf key (b 1)) (hP2 : P (ix2 p 2) = Pool.kOf key (b 2))
    (hP3 : P (ix2 p 3) = Pool.iOf (b 0)) (hP4 : P (ix2 p 4) = Pool.iOf (b 1)) (hP5 : P (ix2 p 5) = Pool.iOf (b 2))
    (hq0 : ∀ c, q0 (ix2 p c) = Pool.rowOf X c (b 0)) (hq1 : ∀ c, q1 (ix2 p c) = Pool.rowOf X c (b 1))
    (hq2 : ∀ c, q2 (ix2 p c) = Pool.rowOf X c (b 2)) :
    ∃ o : Fin 3 → Option ℕ, Pool.Chain key (Pool.mem B (n + 2048) r) o
      ∧ (∀ t : Fin 3, pickK kj idx m0 P t (ix2 p 0) = Pool.kOf key (o t))
      ∧ (∀ t : Fin 3, pickI kj idx m0 P t (ix2 p 0) = Pool.iOf (o t))
      ∧ ∀ (t : Fin 3) (c : Fin 256), slotV kj idx m0 P q blo q0 q1 q2 t (ix2 p c) = Pool.rowOf X c (o t) := by
  classical
  have hopt : ∀ j i, Pool.blkOpt B n r j = some i → i = n + j := fun j i h => by
    unfold Pool.blkOpt at h
    split at h
    · exact (Option.some.inj h).symm
    · exact absurd h (by simp)
  have hw : ∀ (o : Option ℕ) (f : Fin 2048 → Option ℕ), (∀ j i, f j = some i → i = n + j) → ∀ j i, Pool.without o (f j) = some i → i = n + j :=
    fun o f hf j i h => by
      unfold Pool.without at h
      split at h
      · exact absurd h (by simp)
      · exact hf j i h
  -- the block's three picks
  obtain ⟨a0, ka0, ia0, pa0, na0⟩ := round_spec key kj idx (act kj idx m0 0) p n hn _ _ (Pool.blkOpt_mem B n r) hopt hkj hidx hm
  obtain ⟨a1, ka1, ia1, pa1, na1⟩ := round_spec key kj idx (act kj idx m0 1) p n hn _ _ (Pool.without_mem (o := a0) (Pool.blkOpt_mem B n r))
    (hw _ _ hopt) hkj hidx na0
  obtain ⟨a2, ka2, ia2, pa2, -⟩ := round_spec key kj idx (act kj idx m0 2) p n hn _ _ (Pool.without_mem (o := a1) (Pool.without_mem (o := a0) (Pool.blkOpt_mem B n r)))
    (hw _ _ (hw _ _ hopt)) hkj hidx na1
  let a : Fin 3 → Option ℕ := ![a0, a1, a2]
  have hca : Pool.Chain key (Pool.blk B n r) a := ⟨pa0, pa1, pa2⟩
  have hak : ∀ t : Fin 3, rmax kj (act kj idx m0 t) (ix2 p 0) = Pool.kOf key (a t) := fun t => by
    fin_cases t
    · exact ka0
    · exact ka1
    · exact ka2
  have hai : ∀ t : Fin 3, rmin kj idx (act kj idx m0 t) (ix2 p 0) = Pool.iOf (a t) := fun t => by
    fin_cases t
    · exact ia0
    · exact ia1
    · exact ia2
  have hblk : ∀ i ∈ Pool.blk B n r, n ≤ i ∧ i < n + 2048 := fun i h => Finset.mem_Ico.1 (Finset.mem_filter.1 h).1
  have hmem : ∀ i ∈ Pool.mem B n r, i < n := fun i h => Finset.mem_range.1 (Finset.mem_filter.1 h).1
  have hbn : ∀ t i, b t = some i → i < n := fun t i h => hmem i ((Pool.chain_iff key hb t i).1 h).1
  have han : ∀ t i, a t = some i → n ≤ i ∧ i < n + 2048 := fun t i h => hblk i ((Pool.chain_iff key hca t i).1 h).1
  -- the three picks of the eight lanes
  let K : Finset ℕ := Finset.univ.biUnion fun l => (six a b l).toFinset
  have hK : ∀ i, i ∈ K ↔ ∃ l, six a b l = some i := fun i => by simp [K]
  have hK' : ∀ i, i ∈ K ↔ ∃ t, a t = some i ∨ b t = some i := fun i => (hK i).trans (six_mem a b i)
  have hsb : ∀ l i, six a b l = some i → i < 1000000000 := fun l i h => by
    obtain ⟨t, h | h⟩ := (six_mem a b i).1 ⟨l, h⟩
    · have := han t i h; omega
    · have := hbn t i h; omega
  obtain ⟨o0, ko0, io0, po0, no0⟩ := merge_spec key (lanes kj idx m0 P 0).1 (lanes kj idx m0 P 0).2 p _ K hK hsb
    (ck0_lane key kj idx m0 P p a b hak hP0 hP1 hP2) (ci0_lane kj idx m0 P p a b hai hP3 hP4 hP5)
  obtain ⟨o1, ko1, io1, po1, no1⟩ := merge_spec key (lanes kj idx m0 P 1).1 (lanes kj idx m0 P 1).2 p _ _ (Pool.without_mem (o := o0) hK)
    (fun l => Pool.without_bound (hsb l)) (fun l => (no0 l).1) (fun l => (no0 l).2)
  obtain ⟨o2, ko2, io2, po2, -⟩ := merge_spec key (lanes kj idx m0 P 2).1 (lanes kj idx m0 P 2).2 p _ _
    (Pool.without_mem (o := o1) (Pool.without_mem (o := o0) hK))
    (fun l => Pool.without_bound (Pool.without_bound (hsb l))) (fun l => (no1 l).1) (fun l => (no1 l).2)
  let o : Fin 3 → Option ℕ := ![o0, o1, o2]
  have hco : Pool.Chain key K o := ⟨po0, po1, po2⟩
  have hok : ∀ t : Fin 3, pickK kj idx m0 P t (ix2 p 0) = Pool.kOf key (o t) := fun t => by
    fin_cases t
    · exact ko0
    · exact ko1
    · exact ko2
  have hoi : ∀ t : Fin 3, pickI kj idx m0 P t (ix2 p 0) = Pool.iOf (o t) := fun t => by
    fin_cases t
    · exact io0
    · exact io1
    · exact io2
  refine ⟨o, ?_, hok, hoi, fun t c => ?_⟩
  · rw [Pool.mem_add]
    exact Pool.chain_merge key hca hb hK' hco
  · rw [slotV, slot_at, hq0, hq1, hq2, hP0, hP1, hP2, hP3, hP4, hP5, hblo]
    simp only [hidx, hq]
    refine Pool.slot_eq key X n hn c (o t) b hbn (fun s t i hs ht => ?_) (fun i hi => ?_) _ _ (hok t) (hoi t)
    · have h1 := ((Pool.chain_iff key hb s i).1 hs).2
      have h2 := ((Pool.chain_iff key hb t i).1 ht).2
      exact Fin.ext (h1.symm.trans h2)
    · obtain ⟨s, h | h⟩ := (hK' i).1 ((Pool.chain_iff key hco t i).1 hi).1
      · exact .inl (han s i h)
      · exact .inr ⟨s, h⟩

end Cert.KernelIdeal.Pool

end
-- ==== Proof.Trip.lean ====
/- One trip of a block's loop: the pieces it writes, in the names of `Row`. -/
module

public import proofs.«01_k».proof.Proof.Row
public import proofs.«01_k».proof.Proof.Gen.KernelIdeal.Loops
public import Idealize.ShloMosaic.Lib.WritesUnit

@[expose] public section

set_option maxRecDepth 16384

noncomputable section

namespace Cert.KernelIdeal.Pool

open Cert.KernelIdeal Cert.KernelIdeal.Gen Idealize.ShloMosaic

variable {F : FTy → Type} [FloatOps F]

/-- The numbers of a window's segments. -/
abbrev lane32 : IVec S32x1 32 := iota .tc S32x1 32 [0] iota_S32x1_d0_w32

section defs
variable (i : grid0.Coords) (arg5 : Memref sig .tc .vmem S512x1280 .f32) (arg6 arg7 : Memref sig .tc .vmem S512x128 .f32)
  (v3 : Vec F S2048x256 .f32) (v16 : Vec F S1x1x2048 .i32) (v26 v28 : Elt F .i32) (hw : k0_chk1 v26 v28)
  (k : Fin (k0_t1_loop v26 v28).trips) (f5 : BufTy.Contents (Elt F) arg5.view.ty) (f6 : BufTy.Contents (Elt F) arg6.view.ty)
  (f7 : BufTy.Contents (Elt F) arg7.view.ty)

/-- Which rows of the block are of which segment of the window. -/
def mask0 : IVec S32x2048 1 := k0_pay2 (F := F) (k0_pay113 v16) v26 v28 lane32 1#32 k

/-- The lanes kept before. -/
def prevP : Vec F S32x128 .f32 :=
  View.readAt (Elt F) arg7.view (Rect.unit (s := S512x128) (k0_off5 v26 v28 k) S32x128.size (k0_off5_inb v26 v28 hw k)).toLoadRect f7

/-- The sums' piece. -/
def sumPiece : View.Piece (Elt F) S512x1280 .f32 :=
  ⟨Rect.unit (s := S512x1280) (k0_off3 v26 v28 k) S32x256.size (k0_off3_inb v26 v28 hw k),
    k0_pay3 (k0_pay112 i v3) (k0_pay113 v16) v26 v28 lane32 1#32 k
      (View.readAt (Elt F) arg5.view (Rect.unit (s := S512x1280) (k0_off3 v26 v28 k) S32x256.size (k0_off3_inb v26 v28 hw k)).toLoadRect f5)⟩

/-- The rows taken before for place 0. -/
def prevQ0 : FVec F S32x256 .f32 :=
  k0_pay44 (View.readAt (Elt F) arg5.view (Rect.unit (s := S512x1280) (k0_off6 v26 v28 k) S32x256.size (k0_off6_inb v26 v28 hw k)).toLoadRect
    (arg5.view.writes (Elt F) f5 [sumPiece i arg5 v3 v16 v26 v28 hw k f5]))
/-- The rows taken before for place 1. -/
def prevQ1 : FVec F S32x256 .f32 :=
  k0_pay45 (View.readAt (Elt F) arg5.view (Rect.unit (s := S512x1280) (k0_off7 v26 v28 k) S32x256.size (k0_off7_inb v26 v28 hw k)).toLoadRect
    (arg5.view.writes (Elt F) f5 [sumPiece i arg5 v3 v16 v26 v28 hw k f5]))
/-- The rows taken before for place 2. -/
def prevQ2 : FVec F S32x256 .f32 :=
  k0_pay46 (View.readAt (Elt F) arg5.view (Rect.unit (s := S512x1280) (k0_off8 v26 v28 k) S32x256.size (k0_off8_inb v26 v28 hw k)).toLoadRect
    (arg5.view.writes (Elt F) f5 [sumPiece i arg5 v3 v16 v26 v28 hw k f5]))

/-- The rows the trip takes for place `t`. -/
def tripSlot (t : ℕ) : FVec F S32x256 .f32 :=
  slotV (k0_pay114 i v3) (k0_pay115 i) (mask0 v16 v26 v28 k) (prevP arg7 v26 v28 hw k f7) (k0_pay112 i v3) (k0_pay116 i)
    (prevQ0 i arg5 v3 v16 v26 v28 hw k f5) (prevQ1 i arg5 v3 v16 v26 v28 hw k f5) (prevQ2 i arg5 v3 v16 v26 v28 hw k f5) t

variable (c : Dev nD) (arg1 : Memref sig .tc .smem S49 .i32) (harg1 : arg1.IsWhole) (arg2 : Memref sig .tc .smem S49 .i32) (harg2 : arg2.IsWhole)
  (arg3 : Memref sig .tc .vmem S2048x256 .f32) (harg3 : arg3.IsWhole) (arg4 : Memref sig .tc .vmem S49x1x2048 .i32) (harg4 : arg4.IsWhole)
  (harg5 : arg5.IsWhole) (harg6 : arg6.IsWhole) (harg7 : arg7.IsWhole)

/-- The trip's pieces of the result, last first. -/
theorem trip_out : (tripL_k0_t1 (F := F) Variants.none c none i arg1 harg1 arg2 harg2 arg3 harg3 arg4 harg4 arg5 harg5 arg6 harg6 arg7 harg7
      v3 v16 v26 v28 hw lane32 lane8 k f5 f6 f7).1
    = [⟨Rect.unit (s := S512x1280) (k0_off8 v26 v28 k) S32x256.size (k0_off8_inb v26 v28 hw k), tripSlot i arg5 arg7 v3 v16 v26 v28 hw k f5 f7 2⟩,
       ⟨Rect.unit (s := S512x1280) (k0_off7 v26 v28 k) S32x256.size (k0_off7_inb v26 v28 hw k), tripSlot i arg5 arg7 v3 v16 v26 v28 hw k f5 f7 1⟩,
       ⟨Rect.unit (s := S512x1280) (k0_off6 v26 v28 k) S32x256.size (k0_off6_inb v26 v28 hw k), tripSlot i arg5 arg7 v3 v16 v26 v28 hw k f5 f7 0⟩,
       sumPiece i arg5 v3 v16 v26 v28 hw k f5] := by
  unfold tripL_k0_t1 trip_k0_t1
  rfl

/-- The trip's piece of the counts. -/
theorem trip_cnt : (tripL_k0_t1 (F := F) Variants.none c none i arg1 harg1 arg2 harg2 arg3 harg3 arg4 harg4 arg5 harg5 arg6 harg6 arg7 harg7
      v3 v16 v26 v28 hw lane32 lane8 k f5 f6 f7).2.1
    = [⟨Rect.unit (s := S512x128) (k0_off4 v26 v28 k) S32x1.size (k0_off4_inb v26 v28 hw k),
        k0_pay4 (k0_pay113 v16) v26 v28 lane32 1#32 k
          (View.readAt (Elt F) arg6.view (Rect.unit (s := S512x128) (k0_off4 v26 v28 k) S32x1.size (k0_off4_inb v26 v28 hw k)).toLoadRect f6)⟩] := by
  unfold tripL_k0_t1 trip_k0_t1
  rfl

/-- The trip's piece of the kept lanes. -/
theorem trip_top : (tripL_k0_t1 (F := F) Variants.none c none i arg1 harg1 arg2 harg2 arg3 harg3 arg4 harg4 arg5 harg5 arg6 harg6 arg7 harg7
      v3 v16 v26 v28 hw lane32 lane8 k f5 f6 f7).2.2
    = [⟨Rect.unit (s := S512x128) (k0_off5 v26 v28 k) S32x128.size (k0_off5_inb v26 v28 hw k),
        newTop (k0_pay114 i v3) (k0_pay115 i) (mask0 v16 v26 v28 k) (prevP arg7 v26 v28 hw k f7)⟩] := by
  unfold tripL_k0_t1 trip_k0_t1
  rfl

end defs

end Cert.KernelIdeal.Pool

end
-- ==== Proof.TripRow.lean ====
/- One trip of a block's loop, at a row of the result: the rows of the trip's window take the block's rows in, the others
   stay as they are. -/
module

public import proofs.«01_k».proof.Proof.Trip
public import Idealize.ShloMosaic.Lib.VecWindow

@[expose] public section

set_option maxRecDepth 16384

noncomputable section

namespace Cert.KernelIdeal.Pool

open Cert.KernelIdeal Cert.KernelIdeal.Gen Idealize.ShloMosaic

section grid
variable {Val : EltTy → Type} {κ : Kind} {sp : Space} {e : EltTy} {H W h w : ℕ}

/-- A store's piece, read at a position inside it. -/
theorem read_hit (v : View sig κ sp ⟨2, ![H, W]⟩ e) (f : v.ty.Contents Val) {off : Fin 2 → ℕ} (inb : ∀ a, off a + ![h, w] a ≤ ![H, W] a)
    (pay : (⟨2, ![h, w]⟩ : Shape).Idx → Val e) (L : List (View.Piece Val ⟨2, ![H, W]⟩ e)) {R S : ℕ} (ho : off = ![R, S])
    (r : Fin H) (c : Fin W) (p : Fin h) (x : Fin w) (hr : r.val = R + p.val) (hc : c.val = S + x.val) :
    v.read Val (v.writes Val f (⟨Rect.unit (s := ⟨2, ![H, W]⟩) off ![h, w] inb, pay⟩ :: L)) (ix2 r c) = pay (ix2 p x) :=
  View.read_writes_cons_unit_of_mem v f inb pay L (ix2 r c) (ix2 p x) ho fun a => by
    match a with
    | 0 => exact hr
    | 1 => exact hc

/-- A store's piece, read at a row outside it. -/
theorem read_row (v : View sig κ sp ⟨2, ![H, W]⟩ e) (f : v.ty.Contents Val) {off : Fin 2 → ℕ} (inb : ∀ a, off a + ![h, w] a ≤ ![H, W] a)
    (pay : (⟨2, ![h, w]⟩ : Shape).Idx → Val e) (L : List (View.Piece Val ⟨2, ![H, W]⟩ e)) {R S : ℕ} (ho : off = ![R, S])
    (r : Fin H) (c : Fin W) (hr : r.val < R ∨ R + h ≤ r.val) :
    v.read Val (v.writes Val f (⟨Rect.unit (s := ⟨2, ![H, W]⟩) off ![h, w] inb, pay⟩ :: L)) (ix2 r c) = v.read Val (v.writes Val f L) (ix2 r c) :=
  View.read_writes_cons_unit_of_not_mem v f inb pay L (ix2 r c) ho 0 hr

/-- A store's piece, read at a column outside it. -/
theorem read_col (v : View sig κ sp ⟨2, ![H, W]⟩ e) (f : v.ty.Contents Val) {off : Fin 2 → ℕ} (inb : ∀ a, off a + ![h, w] a ≤ ![H, W] a)
    (pay : (⟨2, ![h, w]⟩ : Shape).Idx → Val e) (L : List (View.Piece Val ⟨2, ![H, W]⟩ e)) {R S : ℕ} (ho : off = ![R, S])
    (r : Fin H) (c : Fin W) (hr : c.val < S ∨ S + w ≤ c.val) :
    v.read Val (v.writes Val f (⟨Rect.unit (s := ⟨2, ![H, W]⟩) off ![h, w] inb, pay⟩ :: L)) (ix2 r c) = v.read Val (v.writes Val f L) (ix2 r c) :=
  View.read_writes_cons_unit_of_not_mem v f inb pay L (ix2 r c) ho 1 hr

/-- A load, at a position. -/
theorem load_at (v : View sig κ sp ⟨2, ![H, W]⟩ e) (f : v.ty.Contents Val) {off : Fin 2 → ℕ} (inb : ∀ a, off a + ![h, w] a ≤ ![H, W] a)
    {R S : ℕ} (ho : off = ![R, S]) (r : Fin H) (c : Fin W) (p : Fin h) (x : Fin w) (hr : r.val = R + p.val) (hc : c.val = S + x.val) :
    v.readAt Val (Rect.unit (s := ⟨2, ![H, W]⟩) off ![h, w] inb).toLoadRect f (ix2 p x) = v.read Val f (ix2 r c) := by
  subst ho
  rw [View.readAt_unit v f inb rfl inb]
  refine congrArg (v.read Val f) (funext fun a => Fin.ext ?_)
  match a with
  | 0 => show R + 1 * p.val = r.val; omega
  | 1 => show S + 1 * x.val = c.val; omega

end grid

/-- Column `c` of the `b`-th of the result's five parts. -/
def col (b : ℕ) (hb : b < 5) (c : Fin 256) : Fin 1280 := ⟨256 * b + c.val, by have := c.isLt; omega⟩

variable (B : ℕ → ℕ) (X : ℕ → Fin 256 → EReal) (key : ℕ → EReal)

/-- What row `r` of the result, of the counts and of the kept lanes holds once the first `n` rows of `x` are taken in:
    zeros, the sum of the segment's rows, their number, and the three of greatest key with their keys and numbers. -/
def RowGood (n : ℕ) (r : Fin 512) (O : FVec Ideal S512x1280 .f32) (C T : FVec Ideal S512x128 .f32) : Prop :=
  (∀ c, O (ix2 r (col 0 (by decide) c)) = 0) ∧ (∀ c, O (ix2 r (col 1 (by decide) c)) = Pool.sumS B X n r c) ∧ C (ix2 r 0) = Pool.cntS B n r
  ∧ ∃ o : Fin 3 → Option ℕ, Pool.Chain key (Pool.mem B n r) o
    ∧ T (ix2 r 0) = Pool.kOf key (o 0) ∧ T (ix2 r 1) = Pool.kOf key (o 1) ∧ T (ix2 r 2) = Pool.kOf key (o 2)
    ∧ T (ix2 r 3) = Pool.iOf (o 0) ∧ T (ix2 r 4) = Pool.iOf (o 1) ∧ T (ix2 r 5) = Pool.iOf (o 2)
    ∧ (∀ c, O (ix2 r (col 2 (by decide) c)) = Pool.rowOf X c (o 0)) ∧ (∀ c, O (ix2 r (col 3 (by decide) c)) = Pool.rowOf X c (o 1))
    ∧ ∀ c, O (ix2 r (col 4 (by decide) c)) = Pool.rowOf X c (o 2)

/-- It is a statement of row `r` alone. -/
theorem RowGood.congr {n : ℕ} {r : Fin 512} {O O' : FVec Ideal S512x1280 .f32} {C C' T T' : FVec Ideal S512x128 .f32}
    (h : RowGood B X key n r O C T) (hO : ∀ c, O' (ix2 r c) = O (ix2 r c)) (hC : C' (ix2 r 0) = C (ix2 r 0)) (hT : ∀ c, T' (ix2 r c) = T (ix2 r c)) :
    RowGood B X key n r O' C' T' := by
  simpa only [RowGood, hO, hC, hT] using h

/-- What the block read at a point is: the rows of `x` from `n` on, their keys, numbers and segments. -/
structure BlockGood (n : ℕ) (i : grid0.Coords) (v3 : Vec Ideal S2048x256 .f32) (v16 : Vec Ideal S1x1x2048 .i32) : Prop where
  hx : ∀ (j : Fin 2048) (c : Fin 256), k0_pay112 i v3 (ix2 j c) = X (n + j) c
  hk : ∀ j : Fin 2048, k0_pay114 i v3 (ix2 0 j) = key (n + j)
  hi : ∀ j : Fin 2048, k0_pay115 (F := Ideal) i (ix2 0 j) = (((n + j : ℕ) : ℝ) : EReal)
  hblo : k0_pay116 (F := Ideal) i = ((n : ℝ) : EReal)
  hb : ∀ j : Fin 2048, k0_pay113 v16 (ix2 0 j) = BitVec.ofNat 32 (B (n + j))
  hle : ∀ i, B i ≤ 512
  hn : n + 2048 < 1000000000

theorem off_word : ∀ w : Fin 16, (Scalar.indexCast (Scalar.muli (BitVec.ofNat 32 w.val) 32#32)).toNat = 32 * w.val := by decide

theorem pay44_eq (v : Vec Ideal S32x256 .f32) : k0_pay44 v = v := shapeCast_self (s := S32x256) v _
theorem pay45_eq (v : Vec Ideal S32x256 .f32) : k0_pay45 v = v := shapeCast_self (s := S32x256) v _
theorem pay46_eq (v : Vec Ideal S32x256 .f32) : k0_pay46 v = v := shapeCast_self (s := S32x256) v _

/-- A term taken where `P` holds. -/
theorem ind_mul (P : Prop) [Decidable P] (y : EReal) : Pool.ind P * y = if P then y else 0 := by
  by_cases h : P <;> simp [Pool.ind, h]

section trip
variable {n : ℕ} {i : grid0.Coords} {v3 : Vec Ideal S2048x256 .f32} {v16 : Vec Ideal S1x1x2048 .i32} (hB : BlockGood B X key n i v3 v16)
  (arg5 : Memref sig .tc .vmem S512x1280 .f32) (arg6 arg7 : Memref sig .tc .vmem S512x128 .f32)
  (v26 v28 : Elt Ideal .i32) (hw : k0_chk1 v26 v28)
  (k : Fin (k0_t1_loop v26 v28).trips) (f5 : BufTy.Contents (Elt Ideal) arg5.view.ty) (f6 : BufTy.Contents (Elt Ideal) arg6.view.ty)
  (f7 : BufTy.Contents (Elt Ideal) arg7.view.ty)
  (c : Dev nD) (arg1 : Memref sig .tc .smem S49 .i32) (harg1 : arg1.IsWhole) (arg2 : Memref sig .tc .smem S49 .i32) (harg2 : arg2.IsWhole)
  (arg3 : Memref sig .tc .vmem S2048x256 .f32) (harg3 : arg3.IsWhole) (arg4 : Memref sig .tc .vmem S49x1x2048 .i32) (harg4 : arg4.IsWhole)
  (harg5 : arg5.IsWhole) (harg6 : arg6.IsWhole) (harg7 : arg7.IsWhole)
  (w : Fin 16) (hiv : Scf.iv v26 1#32 k.val = BitVec.ofNat 32 w.val)

include hiv

theorem off3 : k0_off3 v26 v28 k = ![32 * w.val, 256] := by unfold k0_off3; rw [← off_word w, ← hiv]
theorem off4 : k0_off4 v26 v28 k = ![32 * w.val, 0] := by unfold k0_off4; rw [← off_word w, ← hiv]
theorem off5 : k0_off5 v26 v28 k = ![32 * w.val, 0] := by unfold k0_off5; rw [← off_word w, ← hiv]
theorem off6 : k0_off6 v26 v28 k = ![32 * w.val, 512] := by unfold k0_off6; rw [← off_word w, ← hiv]
theorem off7 : k0_off7 v26 v28 k = ![32 * w.val, 768] := by unfold k0_off7; rw [← off_word w, ← hiv]
theorem off8 : k0_off8 v26 v28 k = ![32 * w.val, 1024] := by unfold k0_off8; rw [← off_word w, ← hiv]

/-- A row outside the trip's window stays. -/
theorem trip_other (r : Fin 512) (hr : r.val < 32 * w.val ∨ 32 * w.val + 32 ≤ r.val) {N : ℕ}
    (hg : RowGood B X key N r (arg5.view.read (Elt Ideal) f5) (arg6.view.read (Elt Ideal) f6) (arg7.view.read (Elt Ideal) f7)) :
    let L := tripL_k0_t1 (F := Ideal) Variants.none c none i arg1 harg1 arg2 harg2 arg3 harg3 arg4 harg4 arg5 harg5 arg6 harg6 arg7 harg7
      v3 v16 v26 v28 hw lane32 lane8 k f5 f6 f7
    RowGood B X key N r (arg5.view.read (Elt Ideal) (arg5.view.writes (Elt Ideal) f5 L.1))
      (arg6.view.read (Elt Ideal) (arg6.view.writes (Elt Ideal) f6 L.2.1)) (arg7.view.read (Elt Ideal) (arg7.view.writes (Elt Ideal) f7 L.2.2)) := by
  intro L
  refine hg.congr B X key (fun c => ?_) ?_ (fun c => ?_)
  · rw [show L.1 = _ from trip_out ..]
    exact (read_row _ _ _ _ _ (off8 v26 v28 k w hiv) r c hr).trans ((read_row _ _ _ _ _ (off7 v26 v28 k w hiv) r c hr).trans
      ((read_row _ _ _ _ _ (off6 v26 v28 k w hiv) r c hr).trans (read_row _ _ _ _ _ (off3 v26 v28 k w hiv) r c hr)))
  · rw [show L.2.1 = _ from trip_cnt ..]
    exact read_row _ _ _ _ _ (off4 v26 v28 k w hiv) r 0 hr
  · rw [show L.2.2 = _ from trip_top ..]
    exact read_row _ _ _ _ _ (off5 v26 v28 k w hiv) r c hr

include hB

/-- Which rows of the block are of segment `32 w + p`. -/
theorem mask_at (p : Fin 32) (j : Fin 2048) :
    mask0 v16 v26 v28 k (ix2 p j) = BitVec.ofBool (decide (B (n + j) = 32 * w.val + p.val)) := by
  have h : k0_pay2 (F := Ideal) (k0_pay113 v16) v26 v28 lane32 1#32 k (ix2 p j)
      = IntOp.cmpi .eq (k0_pay113 v16 (ix2 0 j)) (IntOp.addi (Scalar.muli (Scf.iv v26 1#32 k.val) 32#32) (lane32 (ix2 p 0))) := by
    pointwise [k0_pay2]
  rw [mask0, h, hB.hb, hiv, eq_dec]
  have hl : lane32 (ix2 p 0) = BitVec.ofNat 32 p.val := by pointwise [lane32]
  rw [hl]
  refine congrArg BitVec.ofBool (decide_eq_decide.2 ?_)
  have e : IntOp.addi (Scalar.muli (BitVec.ofNat 32 w.val) 32#32) (BitVec.ofNat 32 p.val) = BitVec.ofNat 32 (32 * w.val + p.val) := by
    apply BitVec.eq_of_toNat_eq
    have := w.isLt; have := p.isLt
    simp only [IntOp.addi, Scalar.muli, IntOp.muli, BitVec.toNat_add, BitVec.toNat_mul, BitVec.toNat_ofNat]
    omega
  rw [e]
  have h1 := hB.hle (n + j); have := w.isLt; have := p.isLt
  constructor
  · intro h
    have := congrArg BitVec.toNat h
    rwa [BitVec.toNat_ofNat, BitVec.toNat_ofNat, Nat.mod_eq_of_lt (by omega), Nat.mod_eq_of_lt (by omega)] at this
  · intro h; rw [h]

/-- A row of the trip's window takes the block's rows in. -/
theorem trip_own (r : Fin 512) (p : Fin 32) (hr : r.val = 32 * w.val + p.val)
    (hg : RowGood B X key n r (arg5.view.read (Elt Ideal) f5) (arg6.view.read (Elt Ideal) f6) (arg7.view.read (Elt Ideal) f7)) :
    let L := tripL_k0_t1 (F := Ideal) Variants.none c none i arg1 harg1 arg2 harg2 arg3 harg3 arg4 harg4 arg5 harg5 arg6 harg6 arg7 harg7
      v3 v16 v26 v28 hw lane32 lane8 k f5 f6 f7
    RowGood B X key (n + 2048) r (arg5.view.read (Elt Ideal) (arg5.view.writes (Elt Ideal) f5 L.1))
      (arg6.view.read (Elt Ideal) (arg6.view.writes (Elt Ideal) f6 L.2.1)) (arg7.view.read (Elt Ideal) (arg7.view.writes (Elt Ideal) f7 L.2.2)) := by
  intro L
  obtain ⟨hz, hs, hc, b, hch, hT0, hT1, hT2, hT3, hT4, hT5, hq0, hq1, hq2⟩ := hg
  have o3 := off3 v26 v28 k w hiv; have o4 := off4 v26 v28 k w hiv; have o5 := off5 v26 v28 k w hiv
  have o6 := off6 v26 v28 k w hiv; have o7 := off7 v26 v28 k w hiv; have o8 := off8 v26 v28 k w hiv
  have hm := mask_at B X key hB v26 v28 k w hiv p
  have hmask : ∀ j, mask0 v16 v26 v28 k (ix2 p j) = BitVec.ofBool (decide (Pool.blkOpt B n r j ≠ none)) := fun j => by
    rw [hm, ← hr]
    refine congrArg BitVec.ofBool (decide_eq_decide.2 ?_)
    unfold Pool.blkOpt
    split <;> simp_all
  have hP : ∀ l, prevP arg7 v26 v28 hw k f7 (ix2 p l) = arg7.view.read (Elt Ideal) f7 (ix2 r l) := fun l =>
    load_at arg7.view f7 _ o5 r l p l hr (by simp)
  obtain ⟨o, hco, hok, hoi, hslot⟩ := row_top B X key (k0_pay114 i v3) (k0_pay115 i) (mask0 v16 v26 v28 k) (prevP arg7 v26 v28 hw k f7)
    (k0_pay112 i v3) (k0_pay116 i)
    (prevQ0 i arg5 v3 v16 v26 v28 hw k f5) (prevQ1 i arg5 v3 v16 v26 v28 hw k f5) (prevQ2 i arg5 v3 v16 v26 v28 hw k f5) p n r hB.hn
    hB.hk hB.hi hB.hblo hmask hB.hx b hch ((hP _).trans hT0) ((hP _).trans hT1) ((hP _).trans hT2) ((hP _).trans hT3) ((hP _).trans hT4) ((hP _).trans hT5)
    (fun c => by
      rw [← hq0 c]
      rw [prevQ0, pay44_eq]
      refine ((load_at arg5.view _ _ o6 r (col 2 (by decide) c) p c hr rfl).trans ?_)
      exact read_col arg5.view f5 _ _ [] o3 r _ (.inr (by simp [col])))
    (fun c => by
      rw [← hq1 c]
      rw [prevQ1, pay45_eq]
      refine ((load_at arg5.view _ _ o7 r (col 3 (by decide) c) p c hr rfl).trans ?_)
      exact read_col arg5.view f5 _ _ [] o3 r _ (.inr (by simp [col]; omega)))
    (fun c => by
      rw [← hq2 c]
      rw [prevQ2, pay46_eq]
      refine ((load_at arg5.view _ _ o8 r (col 4 (by decide) c) p c hr rfl).trans ?_)
      exact read_col arg5.view f5 _ _ [] o3 r _ (.inr (by simp [col]; omega)))
  obtain ⟨t0, t1, t2, t3, t4, t5⟩ := newTop_lane (k0_pay114 i v3) (k0_pay115 i) (mask0 v16 v26 v28 k) (prevP arg7 v26 v28 hw k f7) p
  have hO : ∀ y, arg5.view.read (Elt Ideal) (arg5.view.writes (Elt Ideal) f5 L.1) y
      = arg5.view.read (Elt Ideal) (arg5.view.writes (Elt Ideal) f5 [
       ⟨Rect.unit (s := S512x1280) (k0_off8 v26 v28 k) S32x256.size (k0_off8_inb v26 v28 hw k), tripSlot i arg5 arg7 v3 v16 v26 v28 hw k f5 f7 2⟩,
       ⟨Rect.unit (s := S512x1280) (k0_off7 v26 v28 k) S32x256.size (k0_off7_inb v26 v28 hw k), tripSlot i arg5 arg7 v3 v16 v26 v28 hw k f5 f7 1⟩,
       ⟨Rect.unit (s := S512x1280) (k0_off6 v26 v28 k) S32x256.size (k0_off6_inb v26 v28 hw k), tripSlot i arg5 arg7 v3 v16 v26 v28 hw k f5 f7 0⟩,
       sumPiece i arg5 v3 v16 v26 v28 hw k f5]) y := fun y => by rw [show L.1 = _ from trip_out ..]
  have hT : ∀ l, arg7.view.read (Elt Ideal) (arg7.view.writes (Elt Ideal) f7 L.2.2) (ix2 r l)
      = newTop (k0_pay114 i v3) (k0_pay115 i) (mask0 v16 v26 v28 k) (prevP arg7 v26 v28 hw k f7) (ix2 p l) := fun l => by
    rw [show L.2.2 = _ from trip_top ..]
    exact read_hit arg7.view f7 _ _ [] o5 r l p l hr (by simp)
  have hC : arg6.view.read (Elt Ideal) (arg6.view.writes (Elt Ideal) f6 L.2.1) (ix2 r 0)
      = k0_pay4 (k0_pay113 v16) v26 v28 lane32 1#32 k
          (View.readAt (Elt Ideal) arg6.view (Rect.unit (s := S512x128) (k0_off4 v26 v28 k) S32x1.size (k0_off4_inb v26 v28 hw k)).toLoadRect f6) (ix2 p 0) := by
    rw [show L.2.1 = _ from trip_cnt ..]
    exact read_hit arg6.view f6 _ _ [] o4 r 0 p 0 hr (by simp)
  refine ⟨fun c => ?_, fun c => ?_, ?_, o, hco, ?_, ?_, ?_, ?_, ?_, ?_, fun c => ?_, fun c => ?_, fun c => ?_⟩
  · rw [hO, ← hz c]
    exact (read_col _ _ _ _ _ o8 r _ (.inl (by simp [col]; omega))).trans ((read_col _ _ _ _ _ o7 r _ (.inl (by simp [col]; omega))).trans
      ((read_col _ _ _ _ _ o6 r _ (.inl (by simp [col]; omega))).trans (read_col _ _ _ _ _ o3 r _ (.inl (by simp [col])))))
  · rw [hO, Pool.sumS_add, ← hs c]
    refine (read_col _ _ _ _ _ o8 r _ (.inl (by simp [col]; omega))).trans ((read_col _ _ _ _ _ o7 r _ (.inl (by simp [col]; omega))).trans
      ((read_col _ _ _ _ _ o6 r _ (.inl (by simp [col]; omega))).trans ((read_hit _ _ _ _ _ o3 r _ p c hr rfl).trans ?_)))
    have e : ∀ v50 : Vec Ideal S32x256 .f32, k0_pay3 (F := Ideal) (k0_pay112 i v3) (k0_pay113 v16) v26 v28 lane32 1#32 k v50 (ix2 p c)
        = v50 (ix2 p c) + ∑ x, FloatOps.sitofp (F := Ideal) .f32 (BitVec.setWidth 32 (mask0 v16 v26 v28 k (ix2 p x))) * k0_pay112 i v3 (ix2 x c) := fun v50 => by
      unfold mask0
      pointwise [k0_pay3]
    refine (e _).trans (congrArg₂ (· + ·) (load_at arg5.view f5 _ o3 r (col 1 (by decide) c) p c hr rfl) (Finset.sum_congr rfl fun j _ => ?_))
    rw [hm, sit_dec, hB.hx, ind_mul, hr]
  · rw [hC, Pool.cntS_add, ← hc]
    have e : ∀ v61 : Vec Ideal S32x1 .f32, k0_pay4 (F := Ideal) (k0_pay113 v16) v26 v28 lane32 1#32 k v61 (ix2 p 0)
        = v61 (ix2 p 0) + ∑ x, FloatOps.sitofp (F := Ideal) .f32 (BitVec.setWidth 32 (mask0 v16 v26 v28 k (ix2 p x))) := fun v61 => by
      unfold mask0
      pointwise [k0_pay4]
    refine (e _).trans (congrArg₂ (· + ·) (load_at arg6.view f6 _ o4 r 0 p 0 hr (by simp)) (Finset.sum_congr rfl fun j _ => ?_))
    rw [hm, sit_dec, ← hr]
    by_cases h : B (n + j) = r.val <;> simp [Pool.ind, h]
  · rw [hT]; exact t0.trans (hok 0)
  · rw [hT]; exact t1.trans (hok 1)
  · rw [hT]; exact t2.trans (hok 2)
  · rw [hT]; exact t3.trans (hoi 0)
  · rw [hT]; exact t4.trans (hoi 1)
  · rw [hT]; exact t5.trans (hoi 2)
  · rw [hO, ← hslot 0 c]
    exact (read_col _ _ _ _ _ o8 r _ (.inl (by simp [col]; omega))).trans ((read_col _ _ _ _ _ o7 r _ (.inl (by simp [col]; omega))).trans
      (read_hit _ _ _ _ _ o6 r _ p c hr rfl))
  · rw [hO, ← hslot 1 c]
    exact (read_col _ _ _ _ _ o8 r _ (.inl (by simp [col]; omega))).trans (read_hit _ _ _ _ _ o7 r _ p c hr rfl)
  · rw [hO, ← hslot 2 c]
    exact read_hit _ _ _ _ _ o8 r _ p c hr rfl

end trip

end Cert.KernelIdeal.Pool

end
-- ==== Proof.Loop.lean ====
/- A block's loop over the windows of segments, at a row of the result: once it ends every row has the block's rows taken in. -/
module

public import proofs.«01_k».proof.Proof.TripRow
public import Idealize.ShloMosaic.Lib.Writes

@[expose] public section

set_option maxRecDepth 16384

noncomputable section

namespace Cert.KernelIdeal.Pool

open Cert.KernelIdeal Cert.KernelIdeal.Gen Idealize.ShloMosaic

variable (B : ℕ → ℕ) (X : ℕ → Fin 256 → EReal) (key : ℕ → EReal)

/-- A block with no row of the segment leaves its row as it is. -/
theorem RowGood.skip {n : ℕ} {r : Fin 512} {O : FVec Ideal S512x1280 .f32} {C T : FVec Ideal S512x128 .f32}
    (h : RowGood B X key n r O C T) (hn : ∀ j : Fin 2048, B (n + j) ≠ r.val) : RowGood B X key (n + 2048) r O C T := by
  have e1 : ∀ c, Pool.sumS B X (n + 2048) r c = Pool.sumS B X n r c := fun c => by
    rw [Pool.sumS_add, Finset.sum_eq_zero (fun j _ => if_neg (hn j)), add_zero]
  have e2 : Pool.cntS B (n + 2048) r = Pool.cntS B n r := by
    rw [Pool.cntS_add, Finset.sum_eq_zero (fun j _ => if_neg (hn j)), add_zero]
  have e3 : Pool.mem B (n + 2048) r = Pool.mem B n r := by
    rw [Pool.mem_add, show Pool.blk B n r = ∅ from ?_, Finset.empty_union]
    refine Finset.eq_empty_of_forall_notMem fun i hi => ?_
    obtain ⟨j, hj⟩ := (Pool.blkOpt_mem B n r i).1 hi
    unfold Pool.blkOpt at hj
    rw [if_neg (hn j)] at hj
    exact absurd hj (by simp)
  simpa only [RowGood, e1, e2, e3] using h

/-- How often the two loops run: once per window from the first to the last, and not at all. -/
theorem trips_eq : ∀ a c : Fin 16, a ≤ c → (k0_t1_loop (BitVec.ofNat 32 a.val) (BitVec.ofNat 32 c.val)).trips = c.val + 1 - a.val
    ∧ (k0_t2_loop (BitVec.ofNat 32 a.val) (BitVec.ofNat 32 c.val)).trips = 0 := by decide +kernel

theorem iv_eq (a k : ℕ) : Scf.iv (BitVec.ofNat 32 a) 1#32 k = BitVec.ofNat 32 (a + k) := by
  rw [Scf.iv, BitVec.ofNat_add]
  simp

section loop
variable {n : ℕ} {i : grid0.Coords} {v3 : Vec Ideal S2048x256 .f32} {v16 : Vec Ideal S1x1x2048 .i32} (hB : BlockGood B X key n i v3 v16)
  (arg5 : Memref sig .tc .vmem S512x1280 .f32) (arg6 arg7 : Memref sig .tc .vmem S512x128 .f32)
  (v26 v28 : Elt Ideal .i32) (hw : k0_chk1 v26 v28)
  (f5 : BufTy.Contents (Elt Ideal) arg5.view.ty) (f6 : BufTy.Contents (Elt Ideal) arg6.view.ty)
  (f7 : BufTy.Contents (Elt Ideal) arg7.view.ty)
  (c : Dev nD) (arg1 : Memref sig .tc .smem S49 .i32) (harg1 : arg1.IsWhole) (arg2 : Memref sig .tc .smem S49 .i32) (harg2 : arg2.IsWhole)
  (arg3 : Memref sig .tc .vmem S2048x256 .f32) (harg3 : arg3.IsWhole) (arg4 : Memref sig .tc .vmem S49x1x2048 .i32) (harg4 : arg4.IsWhole)
  (harg5 : arg5.IsWhole) (harg6 : arg6.IsWhole) (harg7 : arg7.IsWhole)
  (a b : Fin 16) (hab : a ≤ b) (ha : v26 = BitVec.ofNat 32 a.val) (hb : v28 = BitVec.ofNat 32 b.val)

include hB hab ha hb

/-- After `k` trips the first `k` windows' rows have the block's rows taken in. -/
theorem loop_some (hg : ∀ r, RowGood B X key n r (arg5.view.read (Elt Ideal) f5) (arg6.view.read (Elt Ideal) f6) (arg7.view.read (Elt Ideal) f7))
    (k : ℕ) (hk : k ≤ b.val + 1 - a.val) (r : Fin 512) :
    let L := pb_k0_t1 (F := Ideal) Variants.none c none i arg1 harg1 arg2 harg2 arg3 harg3 arg4 harg4 arg5 harg5 arg6 harg6 arg7 harg7
      v3 v16 v26 v28 hw lane32 lane8 f5 f6 f7 k
    RowGood B X key (if a.val ≤ r.val / 32 ∧ r.val / 32 < a.val + k then n + 2048 else n) r
      (arg5.view.read (Elt Ideal) (arg5.view.writes (Elt Ideal) f5 L.1))
      (arg6.view.read (Elt Ideal) (arg6.view.writes (Elt Ideal) f6 L.2.1)) (arg7.view.read (Elt Ideal) (arg7.view.writes (Elt Ideal) f7 L.2.2)) := by
  induction k generalizing r with
  | zero =>
    rw [if_neg (by omega)]
    exact hg r
  | succ k ih =>
    have hk' : k < (k0_t1_loop v26 v28).trips := by
      rw [ha, hb, (trips_eq a b hab).1]; omega
    intro L
    have hL : L = _ := pb_k0_t1_succ (F := Ideal) Variants.none c none i arg1 harg1 arg2 harg2 arg3 harg3 arg4 harg4 arg5 harg5 arg6 harg6 arg7 harg7
      v3 v16 v26 v28 hw lane32 lane8 f5 f6 f7 ⟨k, hk'⟩
    rw [hL]
    simp only [View.writes_append]
    have hwk : a.val + k < 16 := by have := b.isLt; omega
    have hiv : Scf.iv v26 1#32 (⟨k, hk'⟩ : Fin _).val = BitVec.ofNat 32 (⟨a.val + k, hwk⟩ : Fin 16).val := by
      show Scf.iv v26 1#32 k = _
      rw [ha]; exact iv_eq _ _
    have ih' := ih (by omega) r
    by_cases hr : r.val / 32 = a.val + k
    · rw [if_pos (by omega)]
      rw [if_neg (by omega)] at ih'
      exact trip_own B X key hB arg5 arg6 arg7 v26 v28 hw ⟨k, hk'⟩ _ _ _ c arg1 harg1 arg2 harg2 arg3 harg3 arg4 harg4 harg5 harg6 harg7
        ⟨a.val + k, hwk⟩ hiv r ⟨r.val % 32, Nat.mod_lt _ (by decide)⟩ (by show r.val = 32 * (a.val + k) + r.val % 32; omega) ih'
    · have e : (a.val ≤ r.val / 32 ∧ r.val / 32 < a.val + (k + 1)) ↔ (a.val ≤ r.val / 32 ∧ r.val / 32 < a.val + k) := by omega
      rw [if_congr e rfl rfl]
      exact trip_other B X key arg5 arg6 arg7 v26 v28 hw ⟨k, hk'⟩ _ _ _ c arg1 harg1 arg2 harg2 arg3 harg3 arg4 harg4 harg5 harg6 harg7
        ⟨a.val + k, hwk⟩ hiv r (by show r.val < 32 * (a.val + k) ∨ 32 * (a.val + k) + 32 ≤ r.val; omega) ih'

/-- Once the loops end every row has the block's rows taken in. -/
theorem loop_all (hwin : ∀ (r : Fin 512) (j : Fin 2048), B (n + j) = r.val → a.val ≤ r.val / 32 ∧ r.val / 32 ≤ b.val)
    (hg : ∀ r, RowGood B X key n r (arg5.view.read (Elt Ideal) f5) (arg6.view.read (Elt Ideal) f6) (arg7.view.read (Elt Ideal) f7)) (r : Fin 512) :
    let L := pb_k0_t1 (F := Ideal) Variants.none c none i arg1 harg1 arg2 harg2 arg3 harg3 arg4 harg4 arg5 harg5 arg6 harg6 arg7 harg7
      v3 v16 v26 v28 hw lane32 lane8 f5 f6 f7 (k0_t1_loop v26 v28).trips
    RowGood B X key (n + 2048) r (arg5.view.read (Elt Ideal) (arg5.view.writes (Elt Ideal) f5 L.1))
      (arg6.view.read (Elt Ideal) (arg6.view.writes (Elt Ideal) f6 L.2.1)) (arg7.view.read (Elt Ideal) (arg7.view.writes (Elt Ideal) f7 L.2.2)) := by
  have ht : (k0_t1_loop v26 v28).trips = b.val + 1 - a.val := by rw [ha, hb, (trips_eq a b hab).1]
  rw [ht]
  have h := loop_some B X key hB arg5 arg6 arg7 v26 v28 hw f5 f6 f7 c arg1 harg1 arg2 harg2 arg3 harg3 arg4 harg4 harg5 harg6 harg7 a b hab ha hb hg
    (b.val + 1 - a.val) le_rfl r
  have hab' : a.val ≤ b.val := hab
  by_cases hr : a.val ≤ r.val / 32 ∧ r.val / 32 < a.val + (b.val + 1 - a.val)
  · rw [if_pos hr] at h
    exact h
  · rw [if_neg hr] at h
    refine h.skip B X key fun j e => hr ?_
    have := hwin r j e
    omega

omit hB in
/-- The remainder loop writes nothing. -/
theorem rest_nil (v38 : BitVec 32) (G5 : BufTy.Contents (Elt Ideal) arg5.view.ty) (G6 : BufTy.Contents (Elt Ideal) arg6.view.ty)
    (G7 : BufTy.Contents (Elt Ideal) arg7.view.ty) :
    pb_k0_t2 (F := Ideal) Variants.none c none i arg1 harg1 arg2 harg2 arg3 harg3 arg4 harg4 arg5 harg5 arg6 harg6 arg7 harg7
      v3 v16 v26 v28 hw lane32 lane8 v38 G5 G6 G7 (k0_t2_loop v26 v28).trips = ([], [], []) := by
  rw [show (k0_t2_loop v26 v28).trips = 0 by rw [ha, hb, (trips_eq a b hab).2]]
  rfl

end loop

end Cert.KernelIdeal.Pool

end
-- ==== Proof.Out.lean ====
/- What the kernel's result holds after each block, column by column, and how the body at a point turns what one block
   leaves into what the next leaves. -/
module

public import proofs.«01_k».proof.Proof.Loop

@[expose] public section

set_option maxRecDepth 16384

noncomputable section

namespace Pool

open Classical

variable (key : ℕ → EReal)

theorem chain_exists (A : Finset ℕ) : ∃ o : Fin 3 → Option ℕ, Chain key A o := by
  obtain ⟨a, ha⟩ := pick_exists key A
  obtain ⟨b, hb⟩ := pick_exists key (drop A a)
  obtain ⟨c, hc⟩ := pick_exists key (drop (drop A a) b)
  exact ⟨![a, b, c], ha, hb, hc⟩

/-- The three first rows of `A`. -/
def best (A : Finset ℕ) : Fin 3 → Option ℕ := Classical.choose (chain_exists key A)

theorem best_chain (A : Finset ℕ) : Chain key A (best key A) := Classical.choose_spec (chain_exists key A)

theorem best_eq {A : Finset ℕ} {o : Fin 3 → Option ℕ} (h : Chain key A o) : o = best key A := by
  funext t
  refine Option.ext fun i => ?_
  rw [chain_iff key h, chain_iff key (best_chain key A)]

variable (B : ℕ → ℕ) (X : ℕ → Fin 256 → EReal)

/-- The result at row `r`, column `x` of part `b`, once the first `N` rows are taken in; the means are there at the last. -/
def outAt (N : ℕ) (last : Prop) (r b : ℕ) (x : Fin 256) : EReal :=
  match b with
  | 0 => if last then Idealize.ShloMosaic.Ideal.div (sumS B X N r x) (max (cntS B N r) 1) else 0
  | 1 => sumS B X N r x
  | 2 => rowOf X x (best key (mem B N r) 0)
  | 3 => rowOf X x (best key (mem B N r) 1)
  | _ => rowOf X x (best key (mem B N r) 2)

end Pool

namespace Cert.KernelIdeal.Pool

open Cert.KernelIdeal Cert.KernelIdeal.Gen Idealize.ShloMosaic

variable (B : ℕ → ℕ) (X : ℕ → Fin 256 → EReal) (key : ℕ → EReal)

/-- The result once the first `N` rows are taken in. -/
def Ospec (N : ℕ) (last : Prop) : FVec Ideal S512x1280 .f32 := fun y =>
  Pool.outAt key B X N last (y 0).val ((y 1).val / 256) ⟨(y 1).val % 256, Nat.mod_lt _ (by decide)⟩

theorem Ospec_col (N : ℕ) (last : Prop) (r : Fin 512) (b : ℕ) (hb : b < 5) (c : Fin 256) :
    Ospec B X key N last (ix2 r (col b hb c)) = Pool.outAt key B X N last r b c := by
  have h1 : (256 * b + c.val) / 256 = b := by have := c.isLt; omega
  have h2 : (256 * b + c.val) % 256 = c.val := by have := c.isLt; omega
  show Pool.outAt key B X N last r ((256 * b + c.val) / 256) ⟨(256 * b + c.val) % 256, _⟩ = _
  simp only [h1, h2]

/-- Every column is a column of one of the five parts. -/
theorem col_cases (c : Fin 1280) : ∃ b, ∃ hb : b < 5, ∃ x, c = col b hb x :=
  ⟨c.val / 256, by have := c.isLt; omega, ⟨c.val % 256, Nat.mod_lt _ (by decide)⟩, Fin.ext (by simp [col]; omega)⟩

/-- What row `r` of the counts and of the kept lanes holds once the first `n` rows are taken in. -/
def TopGood (n : ℕ) (r : Fin 512) (C T : FVec Ideal S512x128 .f32) : Prop :=
  C (ix2 r 0) = Pool.cntS B n r ∧ ∃ o : Fin 3 → Option ℕ, Pool.Chain key (Pool.mem B n r) o
    ∧ T (ix2 r 0) = Pool.kOf key (o 0) ∧ T (ix2 r 1) = Pool.kOf key (o 1) ∧ T (ix2 r 2) = Pool.kOf key (o 2)
    ∧ T (ix2 r 3) = Pool.iOf (o 0) ∧ T (ix2 r 4) = Pool.iOf (o 1) ∧ T (ix2 r 5) = Pool.iOf (o 2)

variable {B X key}

theorem RowGood.top {n : ℕ} {r : Fin 512} {O : FVec Ideal S512x1280 .f32} {C T : FVec Ideal S512x128 .f32}
    (h : RowGood B X key n r O C T) : TopGood B key n r C T := by
  obtain ⟨-, -, hc, o, h0, h1, h2, h3, h4, h5, h6, -⟩ := h
  exact ⟨hc, o, h0, h1, h2, h3, h4, h5, h6⟩

theorem RowGood.out {n : ℕ} {r : Fin 512} {O : FVec Ideal S512x1280 .f32} {C T : FVec Ideal S512x128 .f32}
    (h : RowGood B X key n r O C T) (c : Fin 1280) : O (ix2 r c) = Ospec B X key n False (ix2 r c) := by
  obtain ⟨hz, hs, -, o, hch, -, -, -, -, -, -, q0, q1, q2⟩ := h
  obtain ⟨b, hb, x, rfl⟩ := col_cases c
  rw [Ospec_col]
  rw [Pool.best_eq key hch] at q0 q1 q2
  match b, hb with
  | 0, _ => rw [hz]; exact (if_neg id).symm
  | 1, _ => exact hs x
  | 2, _ => exact q0 x
  | 3, _ => exact q1 x
  | 4, _ => exact q2 x

theorem rowGood_of {n : ℕ} {r : Fin 512} {O : FVec Ideal S512x1280 .f32} {C T : FVec Ideal S512x128 .f32}
    (h : TopGood B key n r C T) (hO : ∀ c, O (ix2 r c) = Ospec B X key n False (ix2 r c)) : RowGood B X key n r O C T := by
  obtain ⟨hc, o, h0, h1, h2, h3, h4, h5, h6⟩ := h
  have e := Pool.best_eq key h0
  refine ⟨fun c => ?_, fun c => ?_, hc, o, h0, h1, h2, h3, h4, h5, h6, fun c => ?_, fun c => ?_, fun c => ?_⟩ <;> rw [hO, Ospec_col]
  · exact if_neg id
  · rfl
  · rw [e]; rfl
  · rw [e]; rfl
  · rw [e]; rfl

/-- What the first point writes before its loop is what no rows leave. -/
theorem rowGood_init (r : Fin 512) : RowGood B X key 0 r (k0_pay108 (F := Ideal)) (k0_pay109 (F := Ideal)) (k0_pay110 (F := Ideal)) := by
  have e8 : ∀ c, k0_pay108 (F := Ideal) (ix2 r c) = 0 := fun c => by pointwise [k0_pay108]
  have e9 : k0_pay109 (F := Ideal) (ix2 r 0) = 0 := by pointwise [k0_pay109]
  have e10 : ∀ c : Fin 128, k0_pay110 (F := Ideal) (ix2 r c) = if c.val < 3 then ⊥ else Pool.big := fun c => by
    pointwise [k0_pay110]
    rw [ofBits_ninf, ofBits_big]
    have : ∀ c : Fin 128, IntOp.cmpi .slt (BitVec.ofNat 32 c.val) 3#32 = BitVec.ofBool (decide (c.val < 3)) := by decide
    rw [this, sel_dec]
  have em : Pool.mem B 0 r = ∅ := by simp [Pool.mem]
  refine ⟨fun c => e8 _, fun c => (e8 _).trans (by simp [Pool.sumS]), e9.trans (by simp [Pool.cntS]), fun _ => none,
    ⟨em, em, em⟩, (e10 0).trans rfl, (e10 1).trans rfl, (e10 2).trans rfl, (e10 3).trans rfl, (e10 4).trans rfl, (e10 5).trans rfl,
    fun c => e8 _, fun c => e8 _, fun c => e8 _⟩

section last
variable (arg5 : Memref sig .tc .vmem S512x1280 .f32) (arg6 : Memref sig .tc .vmem S512x128 .f32)
  (f5 : BufTy.Contents (Elt Ideal) arg5.view.ty) (f6 : BufTy.Contents (Elt Ideal) arg6.view.ty)

/-- The last point's means, and the other columns as they were. -/
theorem out_last {N : ℕ} {r : Fin 512} {T : FVec Ideal S512x128 .f32} (L5 : List (View.Piece (Elt Ideal) S512x1280 .f32))
    (L6 : List (View.Piece (Elt Ideal) S512x128 .f32))
    (h : RowGood B X key N r (arg5.view.read (Elt Ideal) (arg5.view.writes (Elt Ideal) f5 L5)) (arg6.view.read (Elt Ideal) (arg6.view.writes (Elt Ideal) f6 L6)) T)
    (c : Fin 1280) :
    arg5.view.read (Elt Ideal) (arg5.view.writes (Elt Ideal) f5 (⟨Rect.unit (s := S512x1280) ![0, 0] S512x256.size inb_S512x1280_S512x256_0_0,
      k0_pay1 (View.readAt (Elt Ideal) arg6.view (Rect.unit (s := S512x128) ![0, 0] S512x1.size inb_S512x128_S512x1_0_0).toLoadRect (arg6.view.writes (Elt Ideal) f6 L6))
        (View.readAt (Elt Ideal) arg5.view (Rect.unit (s := S512x1280) ![0, 256] S512x256.size inb_S512x1280_S512x256_0_256).toLoadRect (arg5.view.writes (Elt Ideal) f5 L5))⟩ :: L5))
      (ix2 r c) = Ospec B X key N True (ix2 r c) := by
  obtain ⟨b, hb, x, rfl⟩ := col_cases c
  have e : ∀ v w, k0_pay1 (F := Ideal) v w (ix2 r x) = Ideal.div (w (ix2 r x)) (max (v (ix2 r 0)) 1) := fun v w => by
    pointwise [k0_pay1]
  rcases Nat.eq_zero_or_pos b with rfl | hb0
  · rw [Ospec_col]
    refine (read_hit arg5.view f5 _ _ _ rfl r _ r x (by simp) (by simp [col])).trans ((e _ _).trans ?_)
    refine Eq.trans ?_ (if_pos trivial).symm
    refine congrArg₂ (fun a b => Ideal.div a (max b 1)) ?_ ?_
    · exact (load_at arg5.view _ _ rfl r (col 1 (by decide) x) r x (by simp) rfl).trans (h.2.1 x)
    · exact (load_at arg6.view _ _ rfl r 0 r 0 (by simp) (by simp)).trans h.2.2.1
  · refine (read_col arg5.view f5 _ _ _ rfl r _ (.inr (by simp [col]; omega))).trans ((h.out _).trans ?_)
    rw [Ospec_col, Ospec_col]
    match b, hb, hb0 with
    | 1, _, _ => rfl
    | 2, _, _ => rfl
    | 3, _, _ => rfl
    | 4, _, _ => rfl

end last

end Cert.KernelIdeal.Pool

end
-- ==== Proof.RefTop.lean ====
/- The reference's first three rows of each segment are the specification's. -/
module

public import proofs.«01_k».proof.Proof.RefRank
public import proofs.«01_k».proof.Proof.Out

@[expose] public section

set_option maxRecDepth 16384

noncomputable section

namespace Cert.ReferenceIdeal.Pool

open Idealize.ShloMosaic hiding ix1 ix2 ix3 eq_ix1 eq_ix2 eq_ix3
open Idealize.ShloMosaic.ValueIdx Idealize.ShloMosaic.Routing
open Cert.ReferenceIdeal Cert.ReferenceIdeal.Gen

variable (x : FVec Ideal S100000x256 .f32) {b : IVec S100000 32} (hb : Pool.Ordered b)

/-- Rows past the last are in no segment. -/
theorem segPad_big (b : IVec S100000 32) {i : ℕ} (h : ¬ i < 100000) : Pool.segPad b i = 512 := by
  unfold Pool.segPad
  exact dif_neg h

theorem mem_padded (b : IVec S100000 32) (r : Fin 512) : Pool.mem (Pool.segPad b) 100352 r.val = Pool.mem (Pool.segPad b) 100000 r.val := by
  ext i
  simp only [Pool.mem, Finset.mem_filter, Finset.mem_range]
  refine ⟨fun h => ⟨?_, h.2⟩, fun h => ⟨by omega, h.2⟩⟩
  by_contra hi
  have := segPad_big b hi
  have := r.isLt
  omega

include hb in
/-- A write lands on a segment's `t`-th row exactly where it writes the row that the specification has there. -/
theorem lands_best (p : Fin 100000) (k : Fin 256) (r : Fin 512) (t : Fin 3) (c : Fin 256) :
    scatter_S512x3x256_S100000x2_S100000x256_1_01_01_1.resultIdx? (ix2 p k) (pairs x b) = some (ix3 r t c)
      ↔ Pool.best (keyX x) (Pool.mem (Pool.segPad b) 100000 r.val) t = some (src x b p).val ∧ k = c := by
  rw [lands_top, pairs_row x hb, pairs_col x hb, Pool.chain_iff _ (Pool.best_chain _ _), Nat.cast_inj, Nat.cast_inj, ← and_assoc]
  refine and_congr_left fun _ => ?_
  have hm : (src x b p).val ∈ Pool.mem (Pool.segPad b) 100000 r.val ↔ segAt x b p = r.val := by
    unfold Pool.mem segAt
    rw [Finset.mem_filter, Finset.mem_range]
    exact and_iff_right (src x b p).isLt
  have hr := r.isLt
  have ht := t.isLt
  rw [hm]
  constructor
  · rintro ⟨h1, h2⟩
    by_cases h : rankAt x b p < 3
    · rw [if_pos h] at h1 h2
      refine ⟨h1, ?_⟩
      unfold rankAt at h2
      rw [h1] at h2
      exact h2
    · rw [if_neg h] at h1
      omega
  · rintro ⟨h1, h2⟩
    have h3 : rankAt x b p = t.val := by
      unfold rankAt
      rw [h1]
      exact h2
    rw [if_pos (by omega), if_pos (by omega)]
    exact ⟨h1, h3⟩

include hb in
theorem top_at (r : Fin 512) (t : Fin 3) (c : Fin 256) :
    top x b (ix3 r t c) = Pool.rowOf (rowX x) c (Pool.best (keyX x) (Pool.mem (Pool.segPad b) 100352 r.val) t) := by
  rw [mem_padded]
  unfold top
  cases ho : Pool.best (keyX x) (Pool.mem (Pool.segPad b) 100000 r.val) t with
  | none =>
    rw [scatter_set_miss]
    · exact Ideal.ofBits_zero_f32
    · intro k hk
      obtain ⟨q, c', rfl⟩ : ∃ (q : Fin 100000) (c' : Fin 256), k = ix2 q c' := ⟨k 0, k 1, eq_ix2 k⟩
      rw [lands_best x hb, ho] at hk
      exact nomatch hk.1
  | some i =>
    have hi : i < 100000 := by
      have := ((Pool.chain_iff _ (Pool.best_chain _ _) t i).1 ho).1
      exact Finset.mem_range.1 (Finset.mem_filter.1 this).1
    obtain ⟨p, hp⟩ := src_surjective x b ⟨i, hi⟩
    refine scatter_set_hit _ _ _ _ _ _ (fun k hk => ?_) (ix2 p c) ?_
    · obtain ⟨q, c', rfl⟩ : ∃ (q : Fin 100000) (c' : Fin 256), k = ix2 q c' := ⟨k 0, k 1, eq_ix2 k⟩
      rw [lands_best x hb, ho] at hk
      obtain ⟨h1, h2⟩ := hk
      rw [rows_at, h2]
      unfold Pool.rowOf rowX
      dsimp only
      rw [dif_pos hi]
      refine congrArg (fun q => x (ix2 q c)) (Fin.ext ?_)
      exact (Option.some.inj h1).symm
    · rw [lands_best x hb, ho, hp]
      exact ⟨rfl, rfl⟩

end Cert.ReferenceIdeal.Pool

end
-- ==== Proof.RefSum.lean ====
/- The reference's sums and means are the specification's. -/
module

public import proofs.«01_k».proof.Proof.RefTop
public import Idealize.ShloMosaic.Lib.ValueIdxCore

@[expose] public section

set_option maxRecDepth 16384

noncomputable section

namespace Cert.ReferenceIdeal.Pool

open Idealize.ShloMosaic hiding ix1 ix2 ix3 eq_ix1 eq_ix2 eq_ix3
open Idealize.ShloMosaic.ValueIdx Idealize.ShloMosaic.Routing
open Cert.ReferenceIdeal Cert.ReferenceIdeal.Gen

variable (x : FVec Ideal S100000x256 .f32) {b : IVec S100000 32} (hb : Pool.Ordered b)

/-- A sum over the padded rows of one segment is over the rows. -/
theorem sum_padded (b : IVec S100000 32) (f : ℕ → EReal) (r : Fin 512) :
    (∑ i ∈ Finset.range 100352, if Pool.segPad b i = r.val then f i else 0) = ∑ i : Fin 100000, if Pool.segPad b i.val = r.val then f i.val else 0 := by
  rw [← Finset.sum_range (fun i => if Pool.segPad b i = r.val then f i else 0)]
  refine (Finset.sum_subset (Finset.range_subset_range.2 (by omega)) fun i _ hi => if_neg ?_).symm
  rw [segPad_big b (fun h => hi (Finset.mem_range.2 h))]
  have := r.isLt
  omega

include hb in
theorem sums_at (r : Fin 512) (c : Fin 256) : sums x b (ix2 r c) = Pool.sumS (Pool.segPad b) (rowX x) 100352 r.val c := by
  classical
  unfold Pool.sumS
  rw [sum_padded b (fun i => rowX x i c) r]
  have hz : (broadcastInDim S512x256 ![] bcast_S_S512x256 (constant (F := Ideal) S_ .f32 0x00000000#32)) (ix2 r c) = (0 : EReal) := Ideal.ofBits_zero_f32
  unfold sums
  show (broadcastInDim S512x256 ![] bcast_S_S512x256 (constant (F := Ideal) S_ .f32 0x00000000#32)) (ix2 r c) + _ = _
  rw [hz, zero_add, Finset.sum_filter, ValueIdx.sum_idx2]
  refine Finset.sum_congr rfl fun i _ => ?_
  have e : ∀ k : Fin 256, (scatter_S512x256_S100000x1_S100000x256_1_0_0_1.resultIdx? (ix2 i k) (column b) = some (ix2 r c)) ↔ (Pool.segPad b i.val = r.val ∧ k = c) := fun k => by
    obtain ⟨h1, h2⟩ := word_at hb i
    rw [lands_sum, column_at, h1, toInt_small _ (by omega), Nat.cast_inj]
  simp only [e]
  by_cases h : Pool.segPad b i.val = r.val
  · simp only [h, true_and, if_true]
    rw [Finset.sum_ite_eq' Finset.univ c]
    unfold rowX
    rw [dif_pos i.isLt, if_pos (Finset.mem_univ _)]
  · simp only [h, false_and, if_false, Finset.sum_const_zero]

theorem count_eq (b : IVec S100000 32) (r : Fin 512) : Pool.cntS (Pool.segPad b) 100352 r.val = (((Pool.num (Pool.segPad b) 100000 r.val : ℕ) : ℝ) : EReal) := by
  unfold Pool.cntS Pool.num
  rw [← mem_padded, Finset.sum_ite, Finset.sum_const_zero, add_zero, Finset.sum_const, nsmul_one]
  rfl

include hb in
theorem mean_at (r : Fin 512) (c : Fin 256) :
    mean x b (ix2 r c) = Ideal.div (Pool.sumS (Pool.segPad b) (rowX x) 100352 r.val c) (max (Pool.cntS (Pool.segPad b) 100352 r.val) 1) := by
  rw [← sums_at x hb r c, count_eq]
  have hn : (sitofp (F := Ideal) .f32 (maxsi (counts b) (broadcastInDim S512 ![] bcast_S_S512 (constantI S_ 32 1#32)))) (ix1 r)
      = max (((Pool.num (Pool.segPad b) 100000 r.val : ℕ) : ℝ) : EReal) 1 := by
    have hl := Pool.num_le (Pool.segPad b) 100000 r.val
    show (((IntOp.maxsi (counts b (ix1 r)) (BitVec.ofNat 32 1)).toInt : ℝ) : EReal) = _
    rw [counts_at hb, maxsi_ofNat _ _ (by omega) (by omega), toInt_small _ (by omega)]
    generalize Pool.num (Pool.segPad b) 100000 r.val = k
    push_cast
    rfl
  rw [← hn]
  generalize hw : sitofp (F := Ideal) .f32 (maxsi (counts b) (broadcastInDim S512 ![] bcast_S_S512 (constantI S_ 32 1#32))) = w
  have he : mean x b (ix2 r c) = Ideal.div (sums x b (ix2 r c))
      (broadcastInDim S512x256 ![0, 1] bcast_S512x1_S512x256_0_1 (broadcastInDim S512x1 ![0] bcast_S512_S512x1_0 w) (ix2 r c)) := by
    unfold mean
    rw [hw]
    rfl
  rw [he]
  refine congrArg (Ideal.div _) (congrArg w (funext fun a => ?_))
  match a with
  | ⟨0, _⟩ => exact Fin.ext rfl

end Cert.ReferenceIdeal.Pool

end
-- ==== Proof.RefOut.lean ====
/- The reference's result is the specification's. -/
module

public import proofs.«01_k».proof.Proof.RefSum
public import Idealize.ShloMosaic.Lib.Pointwise.SelectCore

@[expose] public section

set_option maxRecDepth 16384

noncomputable section

namespace Cert.ReferenceIdeal.Pool

open Idealize.ShloMosaic hiding ix1 ix2 ix3 eq_ix1 eq_ix2 eq_ix3
open Idealize.ShloMosaic.ValueIdx Idealize.ShloMosaic.Routing
open Cert.ReferenceIdeal Cert.ReferenceIdeal.Gen

variable (x : FVec Ideal S100000x256 .f32) {b : IVec S100000 32} (hb : Pool.Ordered b)

section Columns

variable (u v : FVec Ideal S512x256 .f32) (w : FVec Ideal S512x768 .f32) (r : Fin 512) (q : Fin 1280)

/-- Three arrays side by side. -/
abbrev beside : FVec Ideal S512x1280 .f32 :=
  concatenate S512x1280 1 [⟨S512x256, u⟩, ⟨S512x256, v⟩, ⟨S512x768, w⟩] concatenates_S512x256_S512x256_S512x768_S512x1280_d1

/-- The columns of the first, -/
theorem beside_first (c : Fin 256) (hq : q.val = c.val) : beside u v w (ix2 r q) = u (ix2 r c) := by
  have hc := c.isLt
  unfold beside
  refine (concatenate_apply _ _ _ _ _).trans ((concatenateAt_cons _ _ _ _ _ _ _ _).trans ((dif_pos (show q.val < 256 by omega)).trans ?_))
  rw [Shape.Idx.norm_def]
  refine congrArg u (funext fun a => Fin.ext ?_)
  match a with
  | ⟨0, _⟩ => rfl
  | ⟨1, _⟩ => exact hq

/-- of the second -/
theorem beside_second (c : Fin 256) (hq : q.val = 256 + c.val) : beside u v w (ix2 r q) = v (ix2 r c) := by
  have hc := c.isLt
  unfold beside
  refine (concatenate_apply _ _ _ _ _).trans ((concatenateAt_cons _ _ _ _ _ _ _ _).trans ((dif_neg (show ¬ q.val < 256 by omega)).trans ((concatenateAt_cons _ _ _ _ _ _ _ _).trans (
    (dif_pos (show q.val - 256 < 256 by omega)).trans ?_))))
  rw [Shape.Idx.norm_def]
  refine congrArg v (funext fun a => Fin.ext ?_)
  match a with
  | ⟨0, _⟩ => rfl
  | ⟨1, _⟩ => exact (show q.val - 256 = c.val by omega)

/-- and of the third. -/
theorem beside_third (c : Fin 768) (hq : q.val = 512 + c.val) : beside u v w (ix2 r q) = w (ix2 r c) := by
  have hc := c.isLt
  unfold beside
  refine (concatenate_apply _ _ _ _ _).trans ((concatenateAt_cons _ _ _ _ _ _ _ _).trans ((dif_neg (show ¬ q.val < 256 by omega)).trans ((concatenateAt_cons _ _ _ _ _ _ _ _).trans (
    (dif_neg (show ¬ q.val - 256 < 256 by omega)).trans ((concatenateAt_singleton _ _ _ _ _ _).trans ?_)))))
  rw [Shape.Idx.norm_def]
  refine congrArg w (funext fun a => Fin.ext ?_)
  match a with
  | ⟨0, _⟩ => rfl
  | ⟨1, _⟩ => exact (show q.val - 256 - 256 = c.val by omega)

end Columns

/-- The three rows of a segment, one after the other. -/
theorem flat_at (w : FVec Ideal S512x3x256 .f32) (r : Fin 512) (t : Fin 3) (c : Fin 256) (q : Fin 768) (hq : q.val = 256 * t.val + c.val) :
    shapeCast S512x768 w shapeCasts_S512x3x256_S512x768 (ix2 r q) = w (ix3 r t c) := by
  refine shapeCast_apply w _ _ _ ?_
  rw [Shape.rowMajor_val_three, Shape.rowMajor_val_two]
  show (r.val * 3 + t.val) * 256 + c.val = r.val * 768 + q.val
  omega

include hb in
theorem out_top (r : Fin 512) (t : Fin 3) (c : Fin 256) (q : Fin 1280) (hq : q.val = 512 + (256 * t.val + c.val)) :
    out x b (ix2 r q) = Pool.rowOf (rowX x) c (Pool.best (keyX x) (Pool.mem (Pool.segPad b) 100352 r.val) t) := by
  have ht := t.isLt
  have hc := c.isLt
  unfold out
  exact (beside_third _ _ _ r q ⟨256 * t.val + c.val, by omega⟩ hq).trans ((flat_at _ r t c _ rfl).trans (top_at x hb r t c))

include hb in
/-- The reference's result. -/
theorem out_eq : out x b = Cert.KernelIdeal.Pool.Ospec (Pool.segPad b) (rowX x) (keyX x) 100352 True := by
  funext y
  obtain ⟨r, q, rfl⟩ : ∃ (r : Fin 512) (q : Fin 1280), y = ix2 r q := ⟨y 0, y 1, eq_ix2 y⟩
  obtain ⟨k, hk, c, rfl⟩ := Cert.KernelIdeal.Pool.col_cases q
  refine Eq.trans ?_ (Cert.KernelIdeal.Pool.Ospec_col _ _ _ _ _ r k hk c).symm
  match k, hk with
  | 0, _ =>
    refine (beside_first _ _ _ r _ c (Nat.zero_add _)).trans ((mean_at x hb r c).trans ?_)
    exact (if_pos trivial).symm
  | 1, _ => exact (beside_second _ _ _ r _ c rfl).trans (sums_at x hb r c)
  | 2, _ => exact out_top x hb r 0 c _ (by show 256 * 2 + c.val = 512 + (256 * 0 + c.val); omega)
  | 3, _ => exact out_top x hb r 1 c _ (by show 256 * 3 + c.val = 512 + (256 * 1 + c.val); omega)
  | 4, _ => exact out_top x hb r 2 c _ (by show 256 * 4 + c.val = 512 + (256 * 2 + c.val); omega)

end Cert.ReferenceIdeal.Pool

end
-- ==== Proof.RunShape.lean ====
/- The runs of the body at the first point, at the last and between them, with the writes each leaves. -/
module

public import proofs.«01_k».proof.Proof.Run
public import proofs.«01_k».proof.Proof.Trip

@[expose] public section

set_option maxRecDepth 16384

noncomputable section

namespace Cert.KernelIdeal.Pool

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

variable (c : Dev nD) (i : grid0.Coords)
  (arg1 : Memref sig .tc .smem S49 .i32) (harg1 : arg1.IsWhole) (arg2 : Memref sig .tc .smem S49 .i32) (harg2 : arg2.IsWhole)
  (arg3 : Memref sig .tc .vmem S2048x256 .f32) (harg3 : arg3.IsWhole) (arg4 : Memref sig .tc .vmem S49x1x2048 .i32) (harg4 : arg4.IsWhole)
  (arg5 : Memref sig .tc .vmem S512x1280 .f32) (harg5 : arg5.IsWhole) (arg6 : Memref sig .tc .vmem S512x128 .f32) (harg6 : arg6.IsWhole)
  (arg7 : Memref sig .tc .vmem S512x128 .f32) (harg7 : arg7.IsWhole)

/-- The writes of the loop over the windows, from given contents. -/
abbrev loopA (v3 : Vec F S2048x256 .f32) (v16 : Vec F S1x1x2048 .i32) (v26 v28 : Elt F .i32) (hw : k0_chk1 v26 v28)
    (f5 : BufTy.Contents (Elt F) arg5.view.ty) (f6 : BufTy.Contents (Elt F) arg6.view.ty) (f7 : BufTy.Contents (Elt F) arg7.view.ty) :=
  pb_k0_t1 (F := F) Variants.none c none i arg1 harg1 arg2 harg2 arg3 harg3 arg4 harg4 arg5 harg5 arg6 harg6 arg7 harg7
    v3 v16 v26 v28 hw lane32 lane8 f5 f6 f7 (Scf.trips (k0_t1_loop v26 v28).lb (k0_t1_loop v26 v28).ub (k0_t1_loop v26 v28).st)

/-- The writes of the loop over what remains of them. -/
abbrev loopB (v3 : Vec F S2048x256 .f32) (v16 : Vec F S1x1x2048 .i32) (v26 v28 : Elt F .i32) (hw : k0_chk1 v26 v28) (v38 : BitVec 32)
    (f5 : BufTy.Contents (Elt F) arg5.view.ty) (f6 : BufTy.Contents (Elt F) arg6.view.ty) (f7 : BufTy.Contents (Elt F) arg7.view.ty) :=
  pb_k0_t2 (F := F) Variants.none c none i arg1 harg1 arg2 harg2 arg3 harg3 arg4 harg4 arg5 harg5 arg6 harg6 arg7 harg7
    v3 v16 v26 v28 hw lane32 lane8 v38 f5 f6 f7 (Scf.trips (k0_t2_loop v26 v28).lb (k0_t2_loop v26 v28).ub (k0_t2_loop v26 v28).st)

variable (f1 : BufTy.Contents (Elt F) arg1.view.ty) (f2 : BufTy.Contents (Elt F) arg2.view.ty) (f3 : BufTy.Contents (Elt F) arg3.view.ty)
  (f4 : BufTy.Contents (Elt F) arg4.view.ty) (f5 : BufTy.Contents (Elt F) arg5.view.ty) (f6 : BufTy.Contents (Elt F) arg6.view.ty)
  (f7 : BufTy.Contents (Elt F) arg7.view.ty)

/-- The block of rows read at a point. -/
abbrev rowsAt : Vec F S2048x256 .f32 :=
  View.readAt (Elt F) arg3.view (Rect.unit (s := S2048x256) ![0, 0] S2048x256.size inb_S2048x256_S2048x256_0_0).toLoadRect f3

/-- The block of segment numbers read at a point. -/
abbrev segsAt : Vec F S1x1x2048 .i32 :=
  View.readAt (Elt F) arg4.view (Rect.unit (s := S49x1x2048) (k0_off1 i) S1x1x2048.size (k0_off1_inb i)).toLoadRect f4

/-- What the body starts the result with, -/
abbrev start5 : List (View.Piece (Elt F) S512x1280 .f32) := [⟨Rect.unit (s := S512x1280) ![0, 0] S512x1280.size inb_S512x1280_S512x1280_0_0, k0_pay108 (F := F)⟩]
/-- the counts, -/
abbrev start6 : List (View.Piece (Elt F) S512x128 .f32) := [⟨Rect.unit (s := S512x128) ![0, 0] S512x128.size inb_S512x128_S512x128_0_0, k0_pay109 (F := F)⟩]
/-- and the kept lanes. -/
abbrev start7 : List (View.Piece (Elt F) S512x128 .f32) := [⟨Rect.unit (s := S512x128) ![0, 0] S512x128.size inb_S512x128_S512x128_0_0, k0_pay110 (F := F)⟩]

/-- The piece of the means, read from the result and the counts as they are. -/
abbrev means (g5 : BufTy.Contents (Elt F) arg5.view.ty) (g6 : BufTy.Contents (Elt F) arg6.view.ty) : View.Piece (Elt F) S512x1280 .f32 :=
  ⟨Rect.unit (s := S512x1280) ![0, 0] S512x256.size inb_S512x1280_S512x256_0_0,
    k0_pay1 (View.readAt (Elt F) arg6.view (Rect.unit (s := S512x128) ![0, 0] S512x1.size inb_S512x128_S512x1_0_0).toLoadRect g6)
      (View.readAt (Elt F) arg5.view (Rect.unit (s := S512x1280) ![0, 256] S512x256.size inb_S512x1280_S512x256_0_256).toLoadRect g5)⟩

variable (hchk : k0_chk1 (wordAt i arg1 f1) (wordAt i arg2 f2))

/-- The contents the writes of a run leave, neither at the first point nor at the last. -/
def ShapeMid (g5 : BufTy.Contents (Elt F) arg5.view.ty) (g6 : BufTy.Contents (Elt F) arg6.view.ty) (g7 : BufTy.Contents (Elt F) arg7.view.ty) : Prop :=
  ∃ v38 G5 G6 G7, g5 = (arg5.view.writes (Elt F) f5 ((loopB c i arg1 harg1 arg2 harg2 arg3 harg3 arg4 harg4 arg5 harg5 arg6 harg6 arg7 harg7 (rowsAt arg3 f3) (segsAt i arg4 f4) _ _ hchk v38 G5 G6 G7).1 ++ (loopA c i arg1 harg1 arg2 harg2 arg3 harg3 arg4 harg4 arg5 harg5 arg6 harg6 arg7 harg7 (rowsAt arg3 f3) (segsAt i arg4 f4) _ _ hchk f5 f6 f7).1))
    ∧ g6 = (arg6.view.writes (Elt F) f6 ((loopB c i arg1 harg1 arg2 harg2 arg3 harg3 arg4 harg4 arg5 harg5 arg6 harg6 arg7 harg7 (rowsAt arg3 f3) (segsAt i arg4 f4) _ _ hchk v38 G5 G6 G7).2.1 ++ (loopA c i arg1 harg1 arg2 harg2 arg3 harg3 arg4 harg4 arg5 harg5 arg6 harg6 arg7 harg7 (rowsAt arg3 f3) (segsAt i arg4 f4) _ _ hchk f5 f6 f7).2.1))
    ∧ g7 = (arg7.view.writes (Elt F) f7 ((loopB c i arg1 harg1 arg2 harg2 arg3 harg3 arg4 harg4 arg5 harg5 arg6 harg6 arg7 harg7 (rowsAt arg3 f3) (segsAt i arg4 f4) _ _ hchk v38 G5 G6 G7).2.2 ++ (loopA c i arg1 harg1 arg2 harg2 arg3 harg3 arg4 harg4 arg5 harg5 arg6 harg6 arg7 harg7 (rowsAt arg3 f3) (segsAt i arg4 f4) _ _ hchk f5 f6 f7).2.2))

/-- The contents the writes of a run leave, at the last point. -/
def ShapeLast (g5 : BufTy.Contents (Elt F) arg5.view.ty) (g6 : BufTy.Contents (Elt F) arg6.view.ty) (g7 : BufTy.Contents (Elt F) arg7.view.ty) : Prop :=
  ∃ v38 G5 G6 G7, g5 = (arg5.view.writes (Elt F) f5 (means arg5 arg6 (arg5.view.writes (Elt F) f5 ((loopB c i arg1 harg1 arg2 harg2 arg3 harg3 arg4 harg4 arg5 harg5 arg6 harg6 arg7 harg7 (rowsAt arg3 f3) (segsAt i arg4 f4) _ _ hchk v38 G5 G6 G7).1 ++ (loopA c i arg1 harg1 arg2 harg2 arg3 harg3 arg4 harg4 arg5 harg5 arg6 harg6 arg7 harg7 (rowsAt arg3 f3) (segsAt i arg4 f4) _ _ hchk f5 f6 f7).1)) (arg6.view.writes (Elt F) f6 ((loopB c i arg1 harg1 arg2 harg2 arg3 harg3 arg4 harg4 arg5 harg5 arg6 harg6 arg7 harg7 (rowsAt arg3 f3) (segsAt i arg4 f4) _ _ hchk v38 G5 G6 G7).2.1 ++ (loopA c i arg1 harg1 arg2 harg2 arg3 harg3 arg4 harg4 arg5 harg5 arg6 harg6 arg7 harg7 (rowsAt arg3 f3) (segsAt i arg4 f4) _ _ hchk f5 f6 f7).2.1)) :: ((loopB c i arg1 harg1 arg2 harg2 arg3 harg3 arg4 harg4 arg5 harg5 arg6 harg6 arg7 harg7 (rowsAt arg3 f3) (segsAt i arg4 f4) _ _ hchk v38 G5 G6 G7).1 ++ (loopA c i arg1 harg1 arg2 harg2 arg3 harg3 arg4 harg4 arg5 harg5 arg6 harg6 arg7 harg7 (rowsAt arg3 f3) (segsAt i arg4 f4) _ _ hchk f5 f6 f7).1)))
    ∧ g6 = (arg6.view.writes (Elt F) f6 ((loopB c i arg1 harg1 arg2 harg2 arg3 harg3 arg4 harg4 arg5 harg5 arg6 harg6 arg7 harg7 (rowsAt arg3 f3) (segsAt i arg4 f4) _ _ hchk v38 G5 G6 G7).2.1 ++ (loopA c i arg1 harg1 arg2 harg2 arg3 harg3 arg4 harg4 arg5 harg5 arg6 harg6 arg7 harg7 (rowsAt arg3 f3) (segsAt i arg4 f4) _ _ hchk f5 f6 f7).2.1))
    ∧ g7 = (arg7.view.writes (Elt F) f7 ((loopB c i arg1 harg1 arg2 harg2 arg3 harg3 arg4 harg4 arg5 harg5 arg6 harg6 arg7 harg7 (rowsAt arg3 f3) (segsAt i arg4 f4) _ _ hchk v38 G5 G6 G7).2.2 ++ (loopA c i arg1 harg1 arg2 harg2 arg3 harg3 arg4 harg4 arg5 harg5 arg6 harg6 arg7 harg7 (rowsAt arg3 f3) (segsAt i arg4 f4) _ _ hchk f5 f6 f7).2.2))

/-- The contents the writes of a run leave, at the first point. -/
def ShapeFirst (g5 : BufTy.Contents (Elt F) arg5.view.ty) (g6 : BufTy.Contents (Elt F) arg6.view.ty) (g7 : BufTy.Contents (Elt F) arg7.view.ty) : Prop :=
  ∃ v38 G5 G6 G7, g5 = (arg5.view.writes (Elt F) arg5.view.junk ((loopB c i arg1 harg1 arg2 harg2 arg3 harg3 arg4 harg4 arg5 harg5 arg6 harg6 arg7 harg7 (rowsAt arg3 f3) (segsAt i arg4 f4) _ _ hchk v38 G5 G6 G7).1 ++ ((loopA c i arg1 harg1 arg2 harg2 arg3 harg3 arg4 harg4 arg5 harg5 arg6 harg6 arg7 harg7 (rowsAt arg3 f3) (segsAt i arg4 f4) _ _ hchk (arg5.view.writes (Elt F) arg5.view.junk start5) (arg6.view.writes (Elt F) arg6.view.junk start6) (arg7.view.writes (Elt F) arg7.view.junk start7)).1 ++ start5)))
    ∧ g6 = (arg6.view.writes (Elt F) arg6.view.junk ((loopB c i arg1 harg1 arg2 harg2 arg3 harg3 arg4 harg4 arg5 harg5 arg6 harg6 arg7 harg7 (rowsAt arg3 f3) (segsAt i arg4 f4) _ _ hchk v38 G5 G6 G7).2.1 ++ ((loopA c i arg1 harg1 arg2 harg2 arg3 harg3 arg4 harg4 arg5 harg5 arg6 harg6 arg7 harg7 (rowsAt arg3 f3) (segsAt i arg4 f4) _ _ hchk (arg5.view.writes (Elt F) arg5.view.junk start5) (arg6.view.writes (Elt F) arg6.view.junk start6) (arg7.view.writes (Elt F) arg7.view.junk start7)).2.1 ++ start6)))
    ∧ g7 = (arg7.view.writes (Elt F) arg7.view.junk ((loopB c i arg1 harg1 arg2 harg2 arg3 harg3 arg4 harg4 arg5 harg5 arg6 harg6 arg7 harg7 (rowsAt arg3 f3) (segsAt i arg4 f4) _ _ hchk v38 G5 G6 G7).2.2 ++ ((loopA c i arg1 harg1 arg2 harg2 arg3 harg3 arg4 harg4 arg5 harg5 arg6 harg6 arg7 harg7 (rowsAt arg3 f3) (segsAt i arg4 f4) _ _ hchk (arg5.view.writes (Elt F) arg5.view.junk start5) (arg6.view.writes (Elt F) arg6.view.junk start6) (arg7.view.writes (Elt F) arg7.view.junk start7)).2.2 ++ start7)))

set_option maxHeartbeats 400000 in
/-- The run at a point that is neither the first nor the last. -/
theorem run_mid (E : Set ℕ) (q1 q2 : PosShare TreeShare)
    (hc1 : ¬(Scalar.cmpi .ne (Scalar.extui (Scalar.cmpi .eq (BitVec.ofNat 32 (i 0).val) 0#32)) 0#32 = 1#1))
    (hc2 : ¬(Scalar.cmpi .ne (Scalar.extui (Scalar.cmpi .eq (BitVec.ofNat 32 (i 0).val) 48#32)) 0#32 = 1#1)) :
    iprop((arg1.view.loc (c : Thread nD τ) ↦[arg1.view.set]{q1} f1) ∗ (arg2.view.loc (c : Thread nD τ) ↦[arg2.view.set]{q2} f2)
      ∗ (arg3.view.loc (c : Thread nD τ) ↦[arg3.view.set]{fullShare} f3) ∗ (arg4.view.loc (c : Thread nD τ) ↦[arg4.view.set]{fullShare} f4)
      ∗ (arg5.view.loc (c : Thread nD τ) ↦[arg5.view.set]{fullShare} f5) ∗ (arg6.view.loc (c : Thread nD τ) ↦[arg6.view.set]{fullShare} f6)
      ∗ (arg7.view.loc (c : Thread nD τ) ↦[arg7.view.set]{fullShare} f7))
    ⊢ wp frame (wpE (defs₀ (F := F)) Variants.none c none) E
      (cc0__pool_kernel i arg1 harg1 arg2 harg2 arg3 harg3 arg4 harg4 arg5 harg5 arg6 harg6 arg7 harg7) fun _ =>
      (iprop(∃ g5 g6 g7, (arg1.view.loc (c : Thread nD τ) ↦[arg1.view.set]{q1} f1) ∗ (arg2.view.loc (c : Thread nD τ) ↦[arg2.view.set]{q2} f2)
      ∗ (arg3.view.loc (c : Thread nD τ) ↦[arg3.view.set]{fullShare} f3) ∗ (arg4.view.loc (c : Thread nD τ) ↦[arg4.view.set]{fullShare} f4)
      ∗ (arg5.view.loc (c : Thread nD τ) ↦[arg5.view.set]{fullShare} g5) ∗ (arg6.view.loc (c : Thread nD τ) ↦[arg6.view.set]{fullShare} g6)
      ∗ (arg7.view.loc (c : Thread nD τ) ↦[arg7.view.set]{fullShare} g7)
      ∗ ⌜ShapeMid c i arg1 harg1 arg2 harg2 arg3 harg3 arg4 harg4 arg5 harg5 arg6 harg6 arg7 harg7 f1 f2 f3 f4 f5 f6 f7 hchk g5 g6 g7⌝) : sProp 𝕄) := by
  simp only [cc0__pool_kernel_eq_skeleton]; unfold cc0__pool_kernel_skel
  simp only [k0_part17_eq_skeleton]
  iintro ⟨H1, H2, H3, H4, H5, H6, H7⟩
  have hchk := hchk
  sl_exec (disch := first | exact hc1 | exact hc2 | exact hchk)
  sl_step
  iexists _; iexists _; iexists _
  isplitl [H1]; · iexact H1
  isplitl [H2]; · iexact H2
  isplitl [H3]; · iexact H3
  isplitl [H4]; · iexact H4
  isplitl [H5]; · iexact H5
  isplitl [H6]; · iexact H6
  isplitl [H7]; · iexact H7
  ipureintro
  unfold ShapeMid loopA loopB
  generalize @pb_k0_t1 F _ = A
  generalize @pb_k0_t2 F _ = A2
  exact ⟨_, _, _, _, rfl, rfl, rfl⟩

set_option maxHeartbeats 400000 in
/-- The run at the last point. -/
theorem run_last (E : Set ℕ) (q1 q2 : PosShare TreeShare)
    (hc1 : ¬(Scalar.cmpi .ne (Scalar.extui (Scalar.cmpi .eq (BitVec.ofNat 32 (i 0).val) 0#32)) 0#32 = 1#1))
    (hc2 : (Scalar.cmpi .ne (Scalar.extui (Scalar.cmpi .eq (BitVec.ofNat 32 (i 0).val) 48#32)) 0#32 = 1#1)) :
    iprop((arg1.view.loc (c : Thread nD τ) ↦[arg1.view.set]{q1} f1) ∗ (arg2.view.loc (c : Thread nD τ) ↦[arg2.view.set]{q2} f2)
      ∗ (arg3.view.loc (c : Thread nD τ) ↦[arg3.view.set]{fullShare} f3) ∗ (arg4.view.loc (c : Thread nD τ) ↦[arg4.view.set]{fullShare} f4)
      ∗ (arg5.view.loc (c : Thread nD τ) ↦[arg5.view.set]{fullShare} f5) ∗ (arg6.view.loc (c : Thread nD τ) ↦[arg6.view.set]{fullShare} f6)
      ∗ (arg7.view.loc (c : Thread nD τ) ↦[arg7.view.set]{fullShare} f7))
    ⊢ wp frame (wpE (defs₀ (F := F)) Variants.none c none) E
      (cc0__pool_kernel i arg1 harg1 arg2 harg2 arg3 harg3 arg4 harg4 arg5 harg5 arg6 harg6 arg7 harg7) fun _ =>
      (iprop(∃ g5 g6 g7, (arg1.view.loc (c : Thread nD τ) ↦[arg1.view.set]{q1} f1) ∗ (arg2.view.loc (c : Thread nD τ) ↦[arg2.view.set]{q2} f2)
      ∗ (arg3.view.loc (c : Thread nD τ) ↦[arg3.view.set]{fullShare} f3) ∗ (arg4.view.loc (c : Thread nD τ) ↦[arg4.view.set]{fullShare} f4)
      ∗ (arg5.view.loc (c : Thread nD τ) ↦[arg5.view.set]{fullShare} g5) ∗ (arg6.view.loc (c : Thread nD τ) ↦[arg6.view.set]{fullShare} g6)
      ∗ (arg7.view.loc (c : Thread nD τ) ↦[arg7.view.set]{fullShare} g7)
      ∗ ⌜ShapeLast c i arg1 harg1 arg2 harg2 arg3 harg3 arg4 harg4 arg5 harg5 arg6 harg6 arg7 harg7 f1 f2 f3 f4 f5 f6 f7 hchk g5 g6 g7⌝) : sProp 𝕄) := by
  simp only [cc0__pool_kernel_eq_skeleton]; unfold cc0__pool_kernel_skel
  simp only [k0_part17_eq_skeleton]
  iintro ⟨H1, H2, H3, H4, H5, H6, H7⟩
  have hchk := hchk
  sl_exec (disch := first | exact hc1 | exact hc2 | exact hchk)
  sl_step
  iexists _; iexists _; iexists _
  isplitl [H1]; · iexact H1
  isplitl [H2]; · iexact H2
  isplitl [H3]; · iexact H3
  isplitl [H4]; · iexact H4
  isplitl [H5]; · iexact H5
  isplitl [H6]; · iexact H6
  isplitl [H7]; · iexact H7
  ipureintro
  delta run_last.sl.v42 run_last.sl.v43
  unfold ShapeLast loopA loopB
  generalize @pb_k0_t1 F _ = A
  generalize @pb_k0_t2 F _ = A2
  exact ⟨_, _, _, _, rfl, rfl, rfl⟩

set_option maxHeartbeats 400000 in
/-- The run at the first point. -/
theorem run_first (E : Set ℕ) (q1 q2 : PosShare TreeShare)
    (hc1 : (Scalar.cmpi .ne (Scalar.extui (Scalar.cmpi .eq (BitVec.ofNat 32 (i 0).val) 0#32)) 0#32 = 1#1))
    (hc2 : ¬(Scalar.cmpi .ne (Scalar.extui (Scalar.cmpi .eq (BitVec.ofNat 32 (i 0).val) 48#32)) 0#32 = 1#1)) :
    iprop((arg1.view.loc (c : Thread nD τ) ↦[arg1.view.set]{q1} f1) ∗ (arg2.view.loc (c : Thread nD τ) ↦[arg2.view.set]{q2} f2)
      ∗ (arg3.view.loc (c : Thread nD τ) ↦[arg3.view.set]{fullShare} f3) ∗ (arg4.view.loc (c : Thread nD τ) ↦[arg4.view.set]{fullShare} f4)
      ∗ (arg5.view.loc (c : Thread nD τ) ↦[arg5.view.set]{fullShare} f5) ∗ (arg6.view.loc (c : Thread nD τ) ↦[arg6.view.set]{fullShare} f6)
      ∗ (arg7.view.loc (c : Thread nD τ) ↦[arg7.view.set]{fullShare} f7))
    ⊢ wp frame (wpE (defs₀ (F := F)) Variants.none c none) E
      (cc0__pool_kernel i arg1 harg1 arg2 harg2 arg3 harg3 arg4 harg4 arg5 harg5 arg6 harg6 arg7 harg7) fun _ =>
      (iprop(∃ g5 g6 g7, (arg1.view.loc (c : Thread nD τ) ↦[arg1.view.set]{q1} f1) ∗ (arg2.view.loc (c : Thread nD τ) ↦[arg2.view.set]{q2} f2)
      ∗ (arg3.view.loc (c : Thread nD τ) ↦[arg3.view.set]{fullShare} f3) ∗ (arg4.view.loc (c : Thread nD τ) ↦[arg4.view.set]{fullShare} f4)
      ∗ (arg5.view.loc (c : Thread nD τ) ↦[arg5.view.set]{fullShare} g5) ∗ (arg6.view.loc (c : Thread nD τ) ↦[arg6.view.set]{fullShare} g6)
      ∗ (arg7.view.loc (c : Thread nD τ) ↦[arg7.view.set]{fullShare} g7)
      ∗ ⌜ShapeFirst c i arg1 harg1 arg2 harg2 arg3 harg3 arg4 harg4 arg5 harg5 arg6 harg6 arg7 harg7 f1 f2 f3 f4 hchk g5 g6 g7⌝) : sProp 𝕄) := by
  simp only [cc0__pool_kernel_eq_skeleton]; unfold cc0__pool_kernel_skel
  simp only [k0_part17_eq_skeleton]
  iintro ⟨H1, H2, H3, H4, H5, H6, H7⟩
  have hchk := hchk
  sl_exec (disch := first | exact hc1 | exact hc2 | exact hchk)
  sl_step
  iexists _; iexists _; iexists _
  isplitl [H1]; · iexact H1
  isplitl [H2]; · iexact H2
  isplitl [H3]; · iexact H3
  isplitl [H4]; · iexact H4
  isplitl [H5]; · iexact H5
  isplitl [H6]; · iexact H6
  isplitl [H7]; · iexact H7
  ipureintro
  unfold ShapeFirst loopA loopB
  generalize @pb_k0_t1 F _ = A
  generalize @pb_k0_t2 F _ = A2
  exact ⟨_, _, _, _, rfl, rfl, rfl⟩

end Cert.KernelIdeal.Pool

end
-- ==== Proof.RunVal.lean ====
/- A run of the body at a point of the grid, with what it leaves in the result and in the two scratch buffers. -/
module

public import proofs.«01_k».proof.Proof.Out
public import proofs.«01_k».proof.Proof.RunShape

@[expose] public section

set_option maxRecDepth 16384

noncomputable section

namespace Cert.KernelIdeal.Pool

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

local notation "𝕄" => MT nD τ sig Unit (Elt Ideal) ℕ (UR sig nD τ) ℕ

variable (B : ℕ → ℕ) (X : ℕ → Fin 256 → EReal) (key : ℕ → EReal)

section loops
variable {n : ℕ} {i : grid0.Coords} {v3 : Vec Ideal S2048x256 .f32} {v16 : Vec Ideal S1x1x2048 .i32} (hB : BlockGood B X key n i v3 v16)
  (arg5 : Memref sig .tc .vmem S512x1280 .f32) (arg6 arg7 : Memref sig .tc .vmem S512x128 .f32)
  (v26 v28 : Elt Ideal .i32) (hw : k0_chk1 v26 v28)
  (f5 : BufTy.Contents (Elt Ideal) arg5.view.ty) (f6 : BufTy.Contents (Elt Ideal) arg6.view.ty)
  (f7 : BufTy.Contents (Elt Ideal) arg7.view.ty)
  (c : Dev nD) (arg1 : Memref sig .tc .smem S49 .i32) (harg1 : arg1.IsWhole) (arg2 : Memref sig .tc .smem S49 .i32) (harg2 : arg2.IsWhole)
  (arg3 : Memref sig .tc .vmem S2048x256 .f32) (harg3 : arg3.IsWhole) (arg4 : Memref sig .tc .vmem S49x1x2048 .i32) (harg4 : arg4.IsWhole)
  (harg5 : arg5.IsWhole) (harg6 : arg6.IsWhole) (harg7 : arg7.IsWhole)
  (a b : Fin 16) (hab : a ≤ b) (ha : v26 = BitVec.ofNat 32 a.val) (hb : v28 = BitVec.ofNat 32 b.val)

include hB hab ha hb

/-- After both loops every row has the block's rows taken in; -/
theorem loops_good (hwin : ∀ (r : Fin 512) (j : Fin 2048), B (n + j) = r.val → a.val ≤ r.val / 32 ∧ r.val / 32 ≤ b.val)
    (hg : ∀ r, RowGood B X key n r (arg5.view.read (Elt Ideal) f5) (arg6.view.read (Elt Ideal) f6) (arg7.view.read (Elt Ideal) f7))
    (v38 : BitVec 32) (G5 : BufTy.Contents (Elt Ideal) arg5.view.ty) (G6 : BufTy.Contents (Elt Ideal) arg6.view.ty)
    (G7 : BufTy.Contents (Elt Ideal) arg7.view.ty) (r : Fin 512) :
    let L := loopA c i arg1 harg1 arg2 harg2 arg3 harg3 arg4 harg4 arg5 harg5 arg6 harg6 arg7 harg7 v3 v16 v26 v28 hw f5 f6 f7
    let M := loopB c i arg1 harg1 arg2 harg2 arg3 harg3 arg4 harg4 arg5 harg5 arg6 harg6 arg7 harg7 v3 v16 v26 v28 hw v38 G5 G6 G7
    RowGood B X key (n + 2048) r (arg5.view.read (Elt Ideal) (arg5.view.writes (Elt Ideal) f5 (M.1 ++ L.1)))
      (arg6.view.read (Elt Ideal) (arg6.view.writes (Elt Ideal) f6 (M.2.1 ++ L.2.1)))
      (arg7.view.read (Elt Ideal) (arg7.view.writes (Elt Ideal) f7 (M.2.2 ++ L.2.2))) := by
  intro L M
  have hM : M = ([], [], []) := rest_nil arg5 arg6 arg7 v26 v28 hw c arg1 harg1 arg2 harg2 arg3 harg3 arg4 harg4 harg5 harg6 harg7 a b hab ha hb v38 G5 G6 G7
  rw [hM]
  exact loop_all B X key hB arg5 arg6 arg7 v26 v28 hw f5 f6 f7 c arg1 harg1 arg2 harg2 arg3 harg3 arg4 harg4 harg5 harg6 harg7 a b hab ha hb hwin hg r

/-- and so where they are entered after some writes. -/
theorem loops_good' (H5 : List (View.Piece (Elt Ideal) S512x1280 .f32)) (H6 H7 : List (View.Piece (Elt Ideal) S512x128 .f32))
    (hwin : ∀ (r : Fin 512) (j : Fin 2048), B (n + j) = r.val → a.val ≤ r.val / 32 ∧ r.val / 32 ≤ b.val)
    (hg : ∀ r, RowGood B X key n r (arg5.view.read (Elt Ideal) (arg5.view.writes (Elt Ideal) f5 H5))
      (arg6.view.read (Elt Ideal) (arg6.view.writes (Elt Ideal) f6 H6)) (arg7.view.read (Elt Ideal) (arg7.view.writes (Elt Ideal) f7 H7)))
    (v38 : BitVec 32) (G5 : BufTy.Contents (Elt Ideal) arg5.view.ty) (G6 : BufTy.Contents (Elt Ideal) arg6.view.ty)
    (G7 : BufTy.Contents (Elt Ideal) arg7.view.ty) (r : Fin 512) :
    let L := loopA c i arg1 harg1 arg2 harg2 arg3 harg3 arg4 harg4 arg5 harg5 arg6 harg6 arg7 harg7 v3 v16 v26 v28 hw (arg5.view.writes (Elt Ideal) f5 H5) (arg6.view.writes (Elt Ideal) f6 H6) (arg7.view.writes (Elt Ideal) f7 H7)
    let M := loopB c i arg1 harg1 arg2 harg2 arg3 harg3 arg4 harg4 arg5 harg5 arg6 harg6 arg7 harg7 v3 v16 v26 v28 hw v38 G5 G6 G7
    RowGood B X key (n + 2048) r (arg5.view.read (Elt Ideal) (arg5.view.writes (Elt Ideal) f5 (M.1 ++ (L.1 ++ H5))))
      (arg6.view.read (Elt Ideal) (arg6.view.writes (Elt Ideal) f6 (M.2.1 ++ (L.2.1 ++ H6))))
      (arg7.view.read (Elt Ideal) (arg7.view.writes (Elt Ideal) f7 (M.2.2 ++ (L.2.2 ++ H7)))) := by
  intro L M
  have h := loops_good B X key hB arg5 arg6 arg7 v26 v28 hw _ _ _ c arg1 harg1 arg2 harg2 arg3 harg3 arg4 harg4 harg5 harg6 harg7 a b hab ha hb hwin hg v38 G5 G6 G7 r
  rw [← List.append_assoc, ← List.append_assoc, ← List.append_assoc, View.writes_append, View.writes_append arg6.view, View.writes_append arg7.view]
  exact h

end loops

/-- What the body leaves at a point: the block's rows taken in, and the means too at the last point. -/
def Post (N : ℕ) (last : Prop) (O : FVec Ideal S512x1280 .f32) (C T : FVec Ideal S512x128 .f32) : Prop :=
  (∀ r, TopGood B key N r C T) ∧ ∀ r c, O (ix2 r c) = Ospec B X key N last (ix2 r c)

theorem Post.of_good {N : ℕ} {last : Prop} (hl : ¬last) {O : FVec Ideal S512x1280 .f32} {C T : FVec Ideal S512x128 .f32}
    (h : ∀ r, RowGood B X key N r O C T) : Post B X key N last O C T := by
  obtain rfl : last = False := eq_false hl
  exact ⟨fun r => (h r).top, fun r c => (h r).out c⟩

/-- The two guards of the body read the point's number. -/
theorem guard0 : ∀ g : Fin 49, Scalar.cmpi .ne (Scalar.extui (Scalar.cmpi .eq (BitVec.ofNat 32 g.val) 0#32)) 0#32 = 1#1 ↔ g.val = 0 := by
  decide +kernel
theorem guard48 : ∀ g : Fin 49, Scalar.cmpi .ne (Scalar.extui (Scalar.cmpi .eq (BitVec.ofNat 32 g.val) 48#32)) 0#32 = 1#1 ↔ g.val = 48 := by
  decide +kernel

section shapes
attribute [local irreducible] pb_k0_t1 pb_k0_t2

variable (c : Dev nD) (i : grid0.Coords)
  (arg1 : Memref sig .tc .smem S49 .i32) (harg1 : arg1.IsWhole) (arg2 : Memref sig .tc .smem S49 .i32) (harg2 : arg2.IsWhole)
  (arg3 : Memref sig .tc .vmem S2048x256 .f32) (harg3 : arg3.IsWhole) (arg4 : Memref sig .tc .vmem S49x1x2048 .i32) (harg4 : arg4.IsWhole)
  (arg5 : Memref sig .tc .vmem S512x1280 .f32) (harg5 : arg5.IsWhole) (arg6 : Memref sig .tc .vmem S512x128 .f32) (harg6 : arg6.IsWhole)
  (arg7 : Memref sig .tc .vmem S512x128 .f32) (harg7 : arg7.IsWhole)
  (f1 : BufTy.Contents (Elt Ideal) arg1.view.ty) (f2 : BufTy.Contents (Elt Ideal) arg2.view.ty) (f3 : BufTy.Contents (Elt Ideal) arg3.view.ty)
  (f4 : BufTy.Contents (Elt Ideal) arg4.view.ty) (f5 : BufTy.Contents (Elt Ideal) arg5.view.ty) (f6 : BufTy.Contents (Elt Ideal) arg6.view.ty)
  (f7 : BufTy.Contents (Elt Ideal) arg7.view.ty) (hchk : k0_chk1 (wordAt i arg1 f1) (wordAt i arg2 f2))
  {n : ℕ} {a b : Fin 16} (hab : a ≤ b)
  (ha : wordAt i arg1 f1 = BitVec.ofNat 32 a.val) (hb : wordAt i arg2 f2 = BitVec.ofNat 32 b.val)
  (hB : BlockGood B X key n i (rowsAt arg3 f3) (segsAt i arg4 f4))
  (hwin : ∀ (r : Fin 512) (j : Fin 2048), B (n + j) = r.val → a.val ≤ r.val / 32 ∧ r.val / 32 ≤ b.val)
  {g5 : BufTy.Contents (Elt Ideal) arg5.view.ty} {g6 : BufTy.Contents (Elt Ideal) arg6.view.ty} {g7 : BufTy.Contents (Elt Ideal) arg7.view.ty}

include hab ha hb hB hwin

theorem ShapeMid.post {last : Prop} (hl : ¬last)
    (hg : ∀ r, RowGood B X key n r (arg5.view.read (Elt Ideal) f5) (arg6.view.read (Elt Ideal) f6) (arg7.view.read (Elt Ideal) f7))
    (h : ShapeMid c i arg1 harg1 arg2 harg2 arg3 harg3 arg4 harg4 arg5 harg5 arg6 harg6 arg7 harg7 f1 f2 f3 f4 f5 f6 f7 hchk g5 g6 g7) :
    Post B X key (n + 2048) last (arg5.view.read (Elt Ideal) g5) (arg6.view.read (Elt Ideal) g6) (arg7.view.read (Elt Ideal) g7) := by
  obtain ⟨v38, G5, G6, G7, rfl, rfl, rfl⟩ := h
  exact Post.of_good B X key hl (fun r => loops_good B X key hB arg5 arg6 arg7 _ _ hchk f5 f6 f7 c arg1 harg1 arg2 harg2 arg3 harg3 arg4 harg4 harg5 harg6 harg7 a b hab ha hb
    hwin hg v38 G5 G6 G7 r)

theorem ShapeLast.post {last : Prop} (hl : last)
    (hg : ∀ r, RowGood B X key n r (arg5.view.read (Elt Ideal) f5) (arg6.view.read (Elt Ideal) f6) (arg7.view.read (Elt Ideal) f7))
    (h : ShapeLast c i arg1 harg1 arg2 harg2 arg3 harg3 arg4 harg4 arg5 harg5 arg6 harg6 arg7 harg7 f1 f2 f3 f4 f5 f6 f7 hchk g5 g6 g7) :
    Post B X key (n + 2048) last (arg5.view.read (Elt Ideal) g5) (arg6.view.read (Elt Ideal) g6) (arg7.view.read (Elt Ideal) g7) := by
  obtain ⟨v38, G5, G6, G7, rfl, rfl, rfl⟩ := h
  obtain rfl : last = True := eq_true hl
  have hgg := loops_good B X key hB arg5 arg6 arg7 _ _ hchk f5 f6 f7 c arg1 harg1 arg2 harg2 arg3 harg3 arg4 harg4 harg5 harg6 harg7 a b hab ha hb
    hwin hg v38 G5 G6 G7
  exact ⟨fun r => (hgg r).top, fun r c => out_last arg5 arg6 f5 f6 _ _ (hgg r) c⟩

omit hab ha hb hwin hB in
theorem start_good (r : Fin 512) : RowGood B X key 0 r (arg5.view.read (Elt Ideal) (arg5.view.writes (Elt Ideal) f5 start5))
    (arg6.view.read (Elt Ideal) (arg6.view.writes (Elt Ideal) f6 start6)) (arg7.view.read (Elt Ideal) (arg7.view.writes (Elt Ideal) f7 start7)) := by
  have e5 : arg5.view.read (Elt Ideal) (arg5.view.writes (Elt Ideal) f5 start5) = k0_pay108 (F := Ideal) := View.read_writes_full _ _ _ _ _
  have e6 : arg6.view.read (Elt Ideal) (arg6.view.writes (Elt Ideal) f6 start6) = k0_pay109 (F := Ideal) := View.read_writes_full _ _ _ _ _
  have e7 : arg7.view.read (Elt Ideal) (arg7.view.writes (Elt Ideal) f7 start7) = k0_pay110 (F := Ideal) := View.read_writes_full _ _ _ _ _
  rw [e5, e6, e7]
  exact rowGood_init r

theorem ShapeFirst.post {last : Prop} (hl : ¬last) (hn : n = 0)
    (h : ShapeFirst c i arg1 harg1 arg2 harg2 arg3 harg3 arg4 harg4 arg5 harg5 arg6 harg6 arg7 harg7 f1 f2 f3 f4 hchk g5 g6 g7) :
    Post B X key (n + 2048) last (arg5.view.read (Elt Ideal) g5) (arg6.view.read (Elt Ideal) g6) (arg7.view.read (Elt Ideal) g7) := by
  obtain ⟨v38, G5, G6, G7, rfl, rfl, rfl⟩ := h
  have hg : ∀ r, RowGood B X key n r (arg5.view.read (Elt Ideal) (arg5.view.writes (Elt Ideal) arg5.view.junk start5))
    (arg6.view.read (Elt Ideal) (arg6.view.writes (Elt Ideal) arg6.view.junk start6)) (arg7.view.read (Elt Ideal) (arg7.view.writes (Elt Ideal) arg7.view.junk start7)) := fun r => by
    rw [hn]; exact start_good B X key arg5 arg6 arg7 _ _ _ r
  exact Post.of_good B X key hl (fun r => loops_good' B X key hB arg5 arg6 arg7 _ _ hchk arg5.view.junk arg6.view.junk arg7.view.junk c arg1 harg1 arg2 harg2 arg3 harg3 arg4 harg4
    harg5 harg6 harg7 a b hab ha hb start5 start6 start7 hwin hg v38 G5 G6 G7 r)

end shapes

/-- The body at a point: the tables, the rows and the segment numbers as they were, the block's rows taken in. -/
theorem run_val (c : Dev nD) (E : Set ℕ) (i : grid0.Coords)
    (arg1 : Memref sig .tc .smem S49 .i32) (harg1 : arg1.IsWhole) (arg2 : Memref sig .tc .smem S49 .i32) (harg2 : arg2.IsWhole)
    (arg3 : Memref sig .tc .vmem S2048x256 .f32) (harg3 : arg3.IsWhole) (arg4 : Memref sig .tc .vmem S49x1x2048 .i32) (harg4 : arg4.IsWhole)
    (arg5 : Memref sig .tc .vmem S512x1280 .f32) (harg5 : arg5.IsWhole) (arg6 : Memref sig .tc .vmem S512x128 .f32) (harg6 : arg6.IsWhole)
    (arg7 : Memref sig .tc .vmem S512x128 .f32) (harg7 : arg7.IsWhole) (q1 q2 : PosShare TreeShare)
    (f1 : BufTy.Contents (Elt Ideal) arg1.view.ty) (f2 : BufTy.Contents (Elt Ideal) arg2.view.ty) (f3 : BufTy.Contents (Elt Ideal) arg3.view.ty)
    (f4 : BufTy.Contents (Elt Ideal) arg4.view.ty) (f5 : BufTy.Contents (Elt Ideal) arg5.view.ty) (f6 : BufTy.Contents (Elt Ideal) arg6.view.ty)
    (f7 : BufTy.Contents (Elt Ideal) arg7.view.ty) (hchk : k0_chk1 (wordAt i arg1 f1) (wordAt i arg2 f2))
    (n : ℕ) (hn : (i 0).val = 0 → n = 0) (a b : Fin 16) (hab : a ≤ b)
    (ha : wordAt i arg1 f1 = BitVec.ofNat 32 a.val) (hb : wordAt i arg2 f2 = BitVec.ofNat 32 b.val)
    (hB : BlockGood B X key n i (View.readAt (Elt Ideal) arg3.view (Rect.unit (s := S2048x256) ![0, 0] S2048x256.size inb_S2048x256_S2048x256_0_0).toLoadRect f3)
      (View.readAt (Elt Ideal) arg4.view (Rect.unit (s := S49x1x2048) (k0_off1 i) S1x1x2048.size (k0_off1_inb i)).toLoadRect f4))
    (hwin : ∀ (r : Fin 512) (j : Fin 2048), B (n + j) = r.val → a.val ≤ r.val / 32 ∧ r.val / 32 ≤ b.val)
    (hg : (i 0).val ≠ 0 → ∀ r, RowGood B X key n r (arg5.view.read (Elt Ideal) f5) (arg6.view.read (Elt Ideal) f6) (arg7.view.read (Elt Ideal) f7)) :
    iprop((arg1.view.loc (c : Thread nD τ) ↦[arg1.view.set]{q1} f1) ∗ (arg2.view.loc (c : Thread nD τ) ↦[arg2.view.set]{q2} f2)
      ∗ (arg3.view.loc (c : Thread nD τ) ↦[arg3.view.set]{fullShare} f3) ∗ (arg4.view.loc (c : Thread nD τ) ↦[arg4.view.set]{fullShare} f4)
      ∗ (arg5.view.loc (c : Thread nD τ) ↦[arg5.view.set]{fullShare} f5) ∗ (arg6.view.loc (c : Thread nD τ) ↦[arg6.view.set]{fullShare} f6)
      ∗ (arg7.view.loc (c : Thread nD τ) ↦[arg7.view.set]{fullShare} f7))
    ⊢ wp frame (wpE (defs₀ (F := Ideal)) Variants.none c none) E
      (cc0__pool_kernel i arg1 harg1 arg2 harg2 arg3 harg3 arg4 harg4 arg5 harg5 arg6 harg6 arg7 harg7) fun _ =>
      (iprop(∃ g5 g6 g7, (arg1.view.loc (c : Thread nD τ) ↦[arg1.view.set]{q1} f1) ∗ (arg2.view.loc (c : Thread nD τ) ↦[arg2.view.set]{q2} f2)
      ∗ (arg3.view.loc (c : Thread nD τ) ↦[arg3.view.set]{fullShare} f3) ∗ (arg4.view.loc (c : Thread nD τ) ↦[arg4.view.set]{fullShare} f4)
      ∗ (arg5.view.loc (c : Thread nD τ) ↦[arg5.view.set]{fullShare} g5) ∗ (arg6.view.loc (c : Thread nD τ) ↦[arg6.view.set]{fullShare} g6)
      ∗ (arg7.view.loc (c : Thread nD τ) ↦[arg7.view.set]{fullShare} g7)
      ∗ ⌜Post B X key (n + 2048) ((i 0).val = 48) (arg5.view.read (Elt Ideal) g5) (arg6.view.read (Elt Ideal) g6) (arg7.view.read (Elt Ideal) g7)⌝) : sProp 𝕄) := by
  have g0 := guard0 (i 0)
  have g48 := guard48 (i 0)
  by_cases hc1 : Scalar.cmpi .ne (Scalar.extui (Scalar.cmpi .eq (BitVec.ofNat 32 (i 0).val) 0#32)) 0#32 = 1#1 <;>
    by_cases hc2 : Scalar.cmpi .ne (Scalar.extui (Scalar.cmpi .eq (BitVec.ofNat 32 (i 0).val) 48#32)) 0#32 = 1#1
  · exact absurd ((g0.1 hc1).symm.trans (g48.1 hc2)) (by decide)
  · iintro H
    iapply (wp_wand_r frame (wpE (defs₀ (F := Ideal)) Variants.none c none) E)
    isplitl [H]
    · iapply (run_first c i arg1 harg1 arg2 harg2 arg3 harg3 arg4 harg4 arg5 harg5 arg6 harg6 arg7 harg7 f1 f2 f3 f4 f5 f6 f7 hchk E q1 q2 hc1 hc2)
      iexact H
    iintro %u ⟨%h5, %h6, %h7, H1, H2, H3, H4, H5, H6, H7, %hs⟩
    iexists h5; iexists h6; iexists h7
    isplitl [H1]; · iexact H1
    isplitl [H2]; · iexact H2
    isplitl [H3]; · iexact H3
    isplitl [H4]; · iexact H4
    isplitl [H5]; · iexact H5
    isplitl [H6]; · iexact H6
    isplitl [H7]; · iexact H7
    ipureintro
    exact ShapeFirst.post B X key c i arg1 harg1 arg2 harg2 arg3 harg3 arg4 harg4 arg5 harg5 arg6 harg6 arg7 harg7 f1 f2 f3 f4  hchk hab ha hb hB hwin (fun h => hc2 (g48.2 h)) (hn (g0.1 hc1)) hs
  · iintro H
    iapply (wp_wand_r frame (wpE (defs₀ (F := Ideal)) Variants.none c none) E)
    isplitl [H]
    · iapply (run_last c i arg1 harg1 arg2 harg2 arg3 harg3 arg4 harg4 arg5 harg5 arg6 harg6 arg7 harg7 f1 f2 f3 f4 f5 f6 f7 hchk E q1 q2 hc1 hc2)
      iexact H
    iintro %u ⟨%h5, %h6, %h7, H1, H2, H3, H4, H5, H6, H7, %hs⟩
    iexists h5; iexists h6; iexists h7
    isplitl [H1]; · iexact H1
    isplitl [H2]; · iexact H2
    isplitl [H3]; · iexact H3
    isplitl [H4]; · iexact H4
    isplitl [H5]; · iexact H5
    isplitl [H6]; · iexact H6
    isplitl [H7]; · iexact H7
    ipureintro
    exact ShapeLast.post B X key c i arg1 harg1 arg2 harg2 arg3 harg3 arg4 harg4 arg5 harg5 arg6 harg6 arg7 harg7 f1 f2 f3 f4  f5 f6 f7 hchk hab ha hb hB hwin (g48.1 hc2) (hg fun h => hc1 (g0.2 h)) hs
  · iintro H
    iapply (wp_wand_r frame (wpE (defs₀ (F := Ideal)) Variants.none c none) E)
    isplitl [H]
    · iapply (run_mid c i arg1 harg1 arg2 harg2 arg3 harg3 arg4 harg4 arg5 harg5 arg6 harg6 arg7 harg7 f1 f2 f3 f4 f5 f6 f7 hchk E q1 q2 hc1 hc2)
      iexact H
    iintro %u ⟨%h5, %h6, %h7, H1, H2, H3, H4, H5, H6, H7, %hs⟩
    iexists h5; iexists h6; iexists h7
    isplitl [H1]; · iexact H1
    isplitl [H2]; · iexact H2
    isplitl [H3]; · iexact H3
    isplitl [H4]; · iexact H4
    isplitl [H5]; · iexact H5
    isplitl [H6]; · iexact H6
    isplitl [H7]; · iexact H7
    ipureintro
    exact ShapeMid.post B X key c i arg1 harg1 arg2 harg2 arg3 harg3 arg4 harg4 arg5 harg5 arg6 harg6 arg7 harg7 f1 f2 f3 f4  f5 f6 f7 hchk hab ha hb hB hwin (fun h => hc2 (g48.2 h)) (hg fun h => hc1 (g0.2 h)) hs

end Cert.KernelIdeal.Pool

end
-- ==== Proof.Block.lean ====
/- The block read at a point of the grid: the rows, their keys, numbers and segments. -/
module

public import proofs.«01_k».proof.Proof.RunVal
public import proofs.«01_k».proof.Proof.Frame

@[expose] public section

set_option maxRecDepth 16384

noncomputable section

namespace Cert.KernelIdeal.Pool

open Cert.KernelIdeal Cert.KernelIdeal.Gen Idealize.ShloMosaic Idealize.ShloMosaic.TcCoe
open Idealize.ShloMosaic.Pipeline (Dat Cfg Window)

variable (m : (ℓ : Loc nD τ sig) → Buf (Elt Ideal) ℓ)

/-- The segment of row `i`, 512 past the last row. -/
def segB (i : ℕ) : ℕ := Pool.segPad (seg m) i

/-- The rows the launch is made with, -/
abbrev xs : FVec Ideal S100000x256 .f32 := m (((0 : Dev nD) : Thread nD τ).loc main_arg0)

/-- as a function of the row's number, zero past the last; -/
def xRow (i : ℕ) (c : Fin 256) : EReal := if h : i < 100000 then xs m (ix2 ⟨i, h⟩ c) else 0

/-- and the rows' keys, their last column. -/
def keyOf (i : ℕ) : EReal := xRow m i 255

theorem coords_val : ∀ t : Fin 49, (grid0.coords t 0).val = t.val := by decide +kernel

theorem word_row : ∀ g : Fin 49, ∀ j : Fin 2048, IntOp.addi (Scalar.muli (BitVec.ofNat 32 g.val) 2048#32) (BitVec.ofNat 32 j.val) = BitVec.ofNat 32 (2048 * g.val + j.val) := by
  intro g j
  apply BitVec.eq_of_toNat_eq
  have := g.isLt; have := j.isLt
  simp only [IntOp.addi, Scalar.muli, IntOp.muli, BitVec.toNat_add, BitVec.toNat_mul, BitVec.toNat_ofNat]
  omega

theorem toInt_ofNat (k : ℕ) (h : k < 1000000) : (BitVec.ofNat 32 k).toInt = (k : ℤ) := by
  rw [BitVec.toInt_eq_toNat_cond, BitVec.toNat_ofNat]
  have : k % 2 ^ 32 = k := Nat.mod_eq_of_lt (by omega)
  rw [this, if_pos (by omega)]

theorem slt_rows (k : ℕ) (h : k < 1000000) : IntOp.cmpi .slt (BitVec.ofNat 32 k) 100000#32 = BitVec.ofBool (decide (k < 100000)) := by
  refine congrArg BitVec.ofBool (decide_eq_decide.2 ?_)
  rw [toInt_ofNat k h, show (100000#32).toInt = 100000 from rfl]
  omega

/-- Where window 0's block is cut. -/
theorem extent0 : ∀ t : Fin 49, (Pipeline.Clip.of (cc0_transform_0 (grid0.coords t) 0) 2048 100000).extent 2048 = (if t.val = 48 then 1696 else 2048)
    ∧ (Pipeline.Clip.of (cc0_transform_0 (grid0.coords t) 1) 256 256).extent 256 = 256
    ∧ cc0_transform_0 (grid0.coords t) 0 = t.val ∧ cc0_transform_0 (grid0.coords t) 1 = 0 := by decide +kernel

/-- The rows' buffer at a point, after its fetch, on a row of the array. -/
theorem fetched0_at (c : Dev nD) (t : Fin 49) (d) (j : Fin 2048) (k : Fin 256) (h : 2048 * t.val + j.val < 100000) :
    ((cfgm m).win (0 : Fin 3)).fill ((cfgm m).grid.coords t) d ((((cfgm m).win (0 : Fin 3)).blk t).view.read (Elt Ideal) (V m c (Pipeline.arrRef (cfgm m).spec 0))) (ix2 j k)
      = V m c main_arg0 (ix2 ⟨2048 * t.val + j.val, h⟩ k) := by
  obtain ⟨e0, e1, i0, i1⟩ := extent0 t
  have hm : ((cfgm m).win (0 : Fin 3)).moved ((cfgm m).grid.coords t) (ix2 j k) = true := by
    refine (((cfgm m).win (0 : Fin 3)).moved_iff _ _).mpr fun a => ?_
    match a with
    | ⟨0, _⟩ => exact lt_of_lt_of_eq (by have := j.isLt; have := t.isLt; show j.val < _; split <;> omega) e0.symm
    | ⟨1, _⟩ => exact lt_of_lt_of_eq k.isLt e1.symm
  unfold Window.fill
  rw [dif_pos hm]
  refine congrArg (V m c main_arg0) (funext fun a => match a with | ⟨0, _⟩ => Fin.ext ?_ | ⟨1, _⟩ => Fin.ext ?_)
  · exact (((cfgm m).win (0 : Fin 3)).rect_emb_val t _ (0 : Fin 2)).trans
      (show cc0_transform_0 (grid0.coords t) 0 * 2048 + j.val = 2048 * t.val + j.val by rw [i0]; omega)
  · exact (((cfgm m).win (0 : Fin 3)).rect_emb_val t _ (1 : Fin 2)).trans
      (show cc0_transform_0 (grid0.coords t) 1 * 256 + k.val = k.val by rw [i1]; omega)

/-- The segment numbers' buffer at a point holds the whole array. -/
theorem blockFill1_at (c : Dev nD) (t : Fin (cfgm m).N) (a : Fin 49) (j : Fin 2048) :
    blockFill m c 1 t (ix3 a 0 j) = V m c main_v1 (ix3 a 0 j) := by
  unfold blockFill
  have hm : ((cfgm m).win (1 : Fin 3)).moved ((cfgm m).grid.coords t) (ix3 a 0 j) = true := rfl
  unfold Window.fill
  rw [dif_pos hm]
  refine congrArg (V m c main_v1) (funext fun b => match b with | ⟨0, _⟩ => Fin.ext ?_ | ⟨1, _⟩ => Fin.ext ?_ | ⟨2, _⟩ => Fin.ext ?_)
  · exact (((cfgm m).win (1 : Fin 3)).rect_emb_val_of_index_zero t (0 : Fin 3) rfl _)
  · exact (((cfgm m).win (1 : Fin 3)).rect_emb_val_of_index_zero t (1 : Fin 3) rfl _)
  · exact (((cfgm m).win (1 : Fin 3)).rect_emb_val_of_index_zero t (2 : Fin 3) rfl _)

variable (ord : ∀ c : Dev nD, Pool.Ordered (m ((c : Thread nD τ).loc main_arg1)))

include ord in
/-- What the body reads at a point is the block of the launch's rows. -/
theorem blockGood_at (c : Dev nD) (t : Fin 49) (v3 : Vec Ideal S2048x256 .f32) (v16 : Vec Ideal S1x1x2048 .i32)
    (h3 : ∀ (j : Fin 2048) (k : Fin 256) (h : 2048 * t.val + j.val < 100000), v3 (ix2 j k) = V m c main_arg0 (ix2 ⟨2048 * t.val + j.val, h⟩ k))
    (h16 : ∀ j : Fin 2048, v16 (ix3 0 0 j) = V m c main_v1 (ix3 t 0 j)) :
    BlockGood (segB m) (xRow m) (keyOf m) (2048 * t.val) (grid0.coords t) v3 v16 := by
  obtain rfl : c = 0 := Subsingleton.elim _ _
  have ht := t.isLt
  have hx : ∀ (j : Fin 2048) (k : Fin 256), Scalar.select (IntOp.cmpi .slt (IntOp.addi (Scalar.muli (BitVec.ofNat 32 (grid0.coords t 0).val) 2048#32) (BitVec.ofNat 32 j.val)) 100000#32)
      (v3 (ix2 j k)) (0 : EReal) = xRow m (2048 * t.val + j.val) k := fun j k => by
    have hj := j.isLt
    rw [coords_val, word_row t j, slt_rows _ (by omega), sel_dec]
    unfold xRow
    by_cases h : 2048 * t.val + j.val < 100000
    · rw [if_pos h, dif_pos h, h3 j k h, V_arg0]
    · rw [if_neg h, dif_neg h]
  refine ⟨fun j k => ?_, fun j => ?_, fun j => ?_, ?_, fun j => ?_, fun i => Pool.segPad_le (ord 0) i, by omega⟩
  · refine Eq.trans ?_ (hx j k)
    pointwise [k0_pay112, k0_pay111]
  · refine Eq.trans ?_ (hx j 255)
    pointwise [k0_pay114, k0_pay111]
  · have hj := j.isLt
    have e : k0_pay115 (F := Ideal) (grid0.coords t) (ix2 0 j) = FloatOps.sitofp .f32 (IntOp.addi (Scalar.muli (BitVec.ofNat 32 (grid0.coords t 0).val) 2048#32) (BitVec.ofNat 32 j.val)) := by
      pointwise [k0_pay115, k0_pay111]
    rw [e, coords_val, word_row t j]
    show (((BitVec.ofNat 32 (2048 * t.val + j.val)).toInt : ℝ) : EReal) = _
    rw [toInt_ofNat _ (by omega)]
    norm_cast
  · show Scalar.mulf (F := Ideal) (Scalar.sitofp .f32 (BitVec.ofNat 32 (grid0.coords t 0).val)) (Ideal.ofBits .f32 1157627904#32) = _
    rw [ofBits_2048, coords_val]
    show (((BitVec.ofNat 32 t.val).toInt : ℝ) : EReal) * ((2048 : ℝ) : EReal) = _
    rw [toInt_ofNat _ (by omega), ← EReal.coe_mul]
    congr 1; push_cast; ring
  · have e : k0_pay113 (F := Ideal) v16 (ix2 0 j) = v16 (ix3 0 0 j) := by pointwise [k0_pay113]
    rw [e, h16, V_v1]
    exact Pool.padded_at _ _ _ _ t j

end Cert.KernelIdeal.Pool

end
-- ==== Proof.Value.lean ====
/- The kernel's run at the extended reals: the result it ends with. -/
module

public import proofs.«01_k».proof.Proof.Block
public import Idealize.ShloMosaic.Lib.Pipeline.Value

@[expose] public section

set_option maxRecDepth 16384

noncomputable section

namespace Cert.KernelIdeal.Pool

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligationLoose)
open Cert.KernelIdeal Cert.KernelIdeal.Gen

local notation "𝕄" => MT nD τ sig Unit (Elt Ideal) ℕ (UR sig nD τ) ℕ

variable (m : (ℓ : Loc nD τ sig) → Buf (Elt Ideal) ℓ)

/-- The result after the first `k` points, the means in it if they are all. -/
abbrev outPt (k : ℕ) (last : Prop) : FVec Ideal S512x1280 .f32 := Ospec (segB m) (xRow m) (keyOf m) (2048 * k) last

/-- The scratch buffers between points, and the tables. -/
def between (c : Dev nD) (k : ℕ) : sProp 𝕄 :=
  iprop((∃ g6 g7, (((c : Thread nD τ).loc cc0_scratch0) ↦{fullShare} g6) ∗ (((c : Thread nD τ).loc cc0_scratch1) ↦{fullShare} g7)
      ∗ ⌜k ≠ 0 → ∀ r, TopGood (segB m) (keyOf m) (2048 * k) r g6 g7⌝)
    ∗ (∃ r, prngReg c r) ∗ Pipeline.ΦT pre0 (tbl m) c)

/-- The data of the run: the inputs' blocks stay, the result is what the rows so far leave. -/
def datV (_ : Fin 1) (c : Dev nD) : Dat τ (Elt Ideal) Unit ℕ (UR sig nD τ) ℕ (cfgm m) c where
  A w := V m c (Pipeline.arrRef (cfgm m).spec w)
  after := fun | 0 => fun t => blockFill m c 0 t | 1 => fun t => blockFill m c 1 t | 2 => fun t => outPt m (t.val + 1) (t.val = 48)
  Φ k := between m c k.val
  q _ := fullShare
  owed _ := 0

theorem beforeV_0 (c : Dev nD) (t : Fin (cfgm m).N) (d) : (datV m 0 c).before (0 : Fin 3) t d = (datV m 0 c).fetched (0 : Fin 3) t d :=
  (datV m 0 c).before_in_eq_fetched (0 : Fin 3) rfl (fun _ => rfl) (fun t t' h => congrArg (fun ix a => Pipeline.Clip.of (ix a) (S2048x256.size a) (S100000x256.size a)) h)
    (fun t => Window.cut_fill _ _ _ _) t d

theorem beforeV_1 (c : Dev nD) (t : Fin (cfgm m).N) (d) : (datV m 0 c).before (1 : Fin 3) t d = blockFill m c 1 t := by
  rw [(datV m 0 c).before_in_eq_fetched (1 : Fin 3) rfl (fun _ => rfl) (fun t t' h => rfl)
    (fun t => Window.cut_fill ((cfgm m).win (1 : Fin 3)) ((cfgm m).grid.coords t) (fun _ => Classical.arbitrary _) _) t d]
  exact Pipeline.fill_of_clip_none (cfg := cfgm m) (1 : Fin 3) _ (fun _ => rfl) _ _ _

/-- The result is written back after the last point alone. -/
theorem flush2 (t : Fin (cfgm m).N) : ((cfgm m).win (2 : Fin 3)).flush t = true ↔ t.val = 48 := by
  rw [Window.flush_out _ rfl]
  constructor
  · rintro (h | ⟨h, hne⟩)
    · have : t.val + 1 = 49 := h.trans N_0
      omega
    · exact absurd rfl hne
  · intro h
    exact .inl ((congrArg (· + 1) h).trans N_0.symm)

/-- The result's buffer at a later point is what the point before left. -/
theorem beforeV_2 (c : Dev nD) (t : Fin (cfgm m).N) (ht : t.val ≠ 0) (d) : (datV m 0 c).before (2 : Fin 3) t d = outPt m t.val False := by
  have h49 : t.val < 49 := t.isLt.trans_eq N_0
  have hf : ((cfgm m).win (2 : Fin 3)).flush ⟨t.val - 1, Nat.lt_of_le_of_lt (Nat.sub_le _ _) t.isLt⟩ = false := by
    rw [← Bool.not_eq_true, flush2]
    show ¬(t.val - 1 = 48)
    omega
  rw [(datV m 0 c).before_out_kept (2 : Fin 3) rfl t ht hf (fun _ => rfl) (fun _ _ => rfl) d]
  show outPt m (t.val - 1 + 1) (t.val - 1 = 48) = _
  have e1 : t.val - 1 + 1 = t.val := by omega
  have e2 : (t.val - 1 = 48) = False := eq_false (by omega)
  rw [e1, e2]

/-- The rows a point reads are the launch's, on its real rows; -/
theorem rows_read (c : Dev nD) (t : Fin (cfgm m).N) (s : Fin (spec0 (0 : Fin 3)).nbuf) (d) (f3 : BufTy.Contents (Elt Ideal) (stage0_0 s).view.ty)
    (e3 : (stage0_0 s).view.read (Elt Ideal) f3 = (datV m 0 c).fetched (0 : Fin 3) t d) (j : Fin 2048) (k : Fin 256) (h : 2048 * t.val + j.val < 100000) :
    View.readAt (Elt Ideal) (stage0_0 s).view (Rect.unit (s := S2048x256) ![0, 0] S2048x256.size inb_S2048x256_S2048x256_0_0).toLoadRect f3 (ix2 j k)
      = V m c main_arg0 (ix2 ⟨2048 * t.val + j.val, h⟩ k) := by
  rw [View.readAt_full, e3]
  exact fetched0_at m c t d j k h

/-- and the segment numbers are the padded ones. -/
theorem segs_read (c : Dev nD) (t : Fin (cfgm m).N) (s : Fin (spec0 (1 : Fin 3)).nbuf) (f4 : BufTy.Contents (Elt Ideal) (stage0_1 s).view.ty)
    (e4 : (stage0_1 s).view.read (Elt Ideal) f4 = blockFill m c 1 t) (j : Fin 2048) :
    View.readAt (Elt Ideal) (stage0_1 s).view (Rect.unit (s := S49x1x2048) (k0_off1 (grid0.coords t)) S1x1x2048.size (k0_off1_inb (grid0.coords t))).toLoadRect f4 (ix3 0 0 j)
      = V m c main_v1 (ix3 (Fin.cast N_0 t) 0 j) := by
  rw [← blockFill1_at m c t, ← e4]
  refine congrArg ((stage0_1 s).view.read (Elt Ideal) f4) (funext fun b => match b with | ⟨0, _⟩ => Fin.ext ?_ | ⟨1, _⟩ => Fin.ext ?_ | ⟨2, _⟩ => Fin.ext ?_)
  · have h := coords_val (Fin.cast N_0 t)
    have ht : t.val < 49 := t.isLt.trans_eq N_0
    have h' : (grid0.coords t 0).val = t.val := h
    show (BitVec.ofNat 32 (grid0.coords t 0).val).toNat + 1 * 0 = t.val
    rw [h', BitVec.toNat_ofNat]; omega
  · rfl
  · show 0 + 1 * j.val = j.val
    omega

/-- The windows of a point's segments are between its two words. -/
theorem windows_at (hb : Pool.Ordered (seg m)) (g : ℕ) (r : Fin 512) (j : Fin 2048) (h : segB m (2048 * g + j) = r.val) :
    Pool.win0 (seg m) g ≤ r.val / 32 ∧ r.val / 32 ≤ Pool.win1 (seg m) g := by
  have h0 := Pool.segPad_mono hb (i := 2048 * g) (j := 2048 * g + j) (by omega)
  have h1 := Pool.segPad_mono hb (i := 2048 * g + j) (j := 2048 * g + 2047) (by have := j.isLt; omega)
  have hr := r.isLt
  unfold segB at h
  unfold Pool.win0 Pool.win1
  constructor
  · exact Nat.div_le_div_right (by omega)
  · exact Nat.div_le_div_right (by omega)

/-- The body at a point takes what the earlier rows left to what those and the point's leave. -/
theorem point_val (ord : ∀ c : Dev nD, Pool.Ordered (m ((c : Thread nD τ).loc main_arg1))) (c : Dev nD) (t : Fin (cfgm m).N) (s : (w : Fin 3) → Fin (spec0 w).nbuf) (d)
    (f3 : BufTy.Contents (Elt Ideal) (stage0_0 (s 0)).view.ty) (f4 : BufTy.Contents (Elt Ideal) (stage0_1 (s 1)).view.ty)
    (f5 : BufTy.Contents (Elt Ideal) (stage0_2 (s 2)).view.ty) (f6 : Buf (Elt Ideal) ((c : Thread nD τ).loc cc0_scratch0))
    (f7 : Buf (Elt Ideal) ((c : Thread nD τ).loc cc0_scratch1))
    (e3 : (stage0_0 (s 0)).view.read (Elt Ideal) f3 = (datV m 0 c).fetched (0 : Fin 3) t d)
    (e4 : (stage0_1 (s 1)).view.read (Elt Ideal) f4 = blockFill m c 1 t)
    (e5 : t.val ≠ 0 → (stage0_2 (s 2)).view.read (Elt Ideal) f5 = outPt m t.val False)
    (e6 : t.val ≠ 0 → ∀ r, TopGood (segB m) (keyOf m) (2048 * t.val) r f6 f7) :
    iprop((((c : Thread nD τ).loc main_v4) ↦{fullShare.right} tbl m 0) ∗ (((c : Thread nD τ).loc main_v9) ↦{fullShare.right} tbl m 1)
      ∗ ((stage0_0 (s 0)).view.loc (c : Thread nD τ) ↦[(stage0_0 (s 0)).view.set]{fullShare} f3)
      ∗ ((stage0_1 (s 1)).view.loc (c : Thread nD τ) ↦[(stage0_1 (s 1)).view.set]{fullShare} f4)
      ∗ ((stage0_2 (s 2)).view.loc (c : Thread nD τ) ↦[(stage0_2 (s 2)).view.set]{fullShare} f5)
      ∗ (((c : Thread nD τ).loc cc0_scratch0) ↦{fullShare} f6) ∗ (((c : Thread nD τ).loc cc0_scratch1) ↦{fullShare} f7))
    ⊢ wp frame (wpE (defs₀ (F := Ideal)) Variants.none c none) Set.univ (defs₀ (F := Ideal) .tc 0 (t, s)) fun _ =>
      (iprop(∃ g5 g6 g7, (((c : Thread nD τ).loc main_v4) ↦{fullShare.right} tbl m 0) ∗ (((c : Thread nD τ).loc main_v9) ↦{fullShare.right} tbl m 1)
      ∗ ((stage0_0 (s 0)).view.loc (c : Thread nD τ) ↦[(stage0_0 (s 0)).view.set]{fullShare} f3)
      ∗ ((stage0_1 (s 1)).view.loc (c : Thread nD τ) ↦[(stage0_1 (s 1)).view.set]{fullShare} f4)
      ∗ ((stage0_2 (s 2)).view.loc (c : Thread nD τ) ↦[(stage0_2 (s 2)).view.set]{fullShare} g5)
      ∗ (((c : Thread nD τ).loc cc0_scratch0) ↦{fullShare} g6) ∗ (((c : Thread nD τ).loc cc0_scratch1) ↦{fullShare} g7)
      ∗ ⌜(stage0_2 (s 2)).view.read (Elt Ideal) g5 = outPt m (t.val + 1) (t.val = 48) ∧ ∀ r, TopGood (segB m) (keyOf m) (2048 * (t.val + 1)) r g6 g7⌝) : sProp 𝕄) := by
  have ht : t.val < 49 := t.isLt.trans_eq N_0
  have hv : (grid0.coords t 0).val = t.val := coords_val (Fin.cast N_0 t)
  have hw := Pool.win_le (ord 0) (Fin.cast N_0 t)
  have hw' : Pool.win0 (seg m) t.val ≤ Pool.win1 (seg m) t.val ∧ Pool.win1 (seg m) t.val < 16 := hw
  have hi : grid0.coords t 0 = Fin.cast N_0 t := Fin.ext hv
  have h := run_val (segB m) (xRow m) (keyOf m) c Set.univ (grid0.coords t) (Memref.whole main_v4) (Memref.isWhole_whole _) (Memref.whole main_v9) (Memref.isWhole_whole _)
    (stage0_0 (s 0)) (hstage0_0 ((s 0).cast nbuf0_0)) (stage0_1 (s 1)) (hstage0_1 ((s 1).cast nbuf0_1)) (stage0_2 (s 2)) (hstage0_2 ((s 2).cast nbuf0_2))
    (Memref.whole cc0_scratch0) (Memref.isWhole_whole _) (Memref.whole cc0_scratch1) (Memref.isWhole_whole _) fullShare.right fullShare.right
    (tbl m 0) (tbl m 1) f3 f4 f5 f6 f7 (chk_words m ord (grid0.coords t)) (2048 * t.val) (fun h => by rw [hv] at h; omega)
    ⟨Pool.win0 (seg m) t.val, hw'.1.trans_lt hw'.2⟩ ⟨Pool.win1 (seg m) t.val, hw'.2⟩ hw'.1
    (by rw [wordAt_v4 (grid0.coords t) (tbl m 0), hi]; exact tbl0_at m ord _)
    (by rw [wordAt_v9 (grid0.coords t) (tbl m 1), hi]; exact tbl1_at m ord _)
    (blockGood_at m ord c (Fin.cast N_0 t) _ _ (fun j k hk => rows_read m c t (s 0) d f3 e3 j k hk) (fun j => segs_read m c t (s 1) f4 e4 j))
    (fun r j hj => windows_at m (ord 0) t.val r j hj)
    (fun h r => by
      rw [hv] at h
      refine rowGood_of (e6 h r) fun c => ?_
      rw [e5 h])
  simp only [Memref.whole, View.set_whole] at h
  refine h.trans (wp_mono _ _ _ fun u => ?_)
  iintro ⟨%g5, %g6, %g7, H1, H2, H3, H4, H5, H6, H7, %hp⟩
  iexists g5; iexists g6; iexists g7
  isplitl [H1]; · iexact H1
  isplitl [H2]; · iexact H2
  isplitl [H3]; · iexact H3
  isplitl [H4]; · iexact H4
  isplitl [H5]; · iexact H5
  isplitl [H6]; · iexact H6
  isplitl [H7]; · iexact H7
  ipureintro
  refine ⟨funext fun x => ?_, fun r => hp.1 r⟩
  obtain ⟨r, c, rfl⟩ : ∃ r c, x = ix2 r c := ⟨x 0, x 1, (ValueIdx.eq_ix2 x).trans (ix2_eq_valueIdx _ _).symm⟩
  have := hp.2 r c
  rw [hv] at this
  exact this

end Cert.KernelIdeal.Pool

end
-- ==== Proof.Launch.lean ====
/- The whole program's run at the extended reals: the result it ends with. -/
module

public import proofs.«01_k».proof.Proof.Value
public import Idealize.ShloMosaic.Lib.Pipeline.ValueKit

@[expose] public section

set_option maxRecDepth 16384

noncomputable section

namespace Cert.KernelIdeal.Pool

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligationLoose)
open Cert.KernelIdeal Cert.KernelIdeal.Gen

local notation "𝕄" => MT nD τ sig Unit (Elt Ideal) ℕ (UR sig nD τ) ℕ

variable (m : (ℓ : Loc nD τ sig) → Buf (Elt Ideal) ℓ)

/-- The body's obligation at every point. -/
theorem obligation_val (ord : ∀ c : Dev nD, Pool.Ordered (m ((c : Thread nD τ).loc main_arg1))) (c : Dev nD) :
    BodyObligationLoose (datV m 0 c) (defs₀ (F := Ideal)) Variants.none () Set.univ := fun t => by
  rw [bigSep_W0, bigSep_W0]
  rw [show (datV m 0 c).Φ t.succ = between m c (t.val + 1) from rfl,
    show (datV m 0 c).Φ t.castSucc = between m c t.val from rfl,
    show (datV m 0 c).owesAt () t.succ = (datV m 0 c).owesAt () t.castSucc from rfl]
  unfold between
  rw [PhiT_eq]
  iintro ⟨⟨⟨%g6, %g7, H6, H7, %hT⟩, Hr, ⟨H1, H2⟩⟩, Ho, ⟨%d0, H3⟩, ⟨%d1, H4⟩, ⟨%X, H5⟩⟩
  rw [beforeV_0 m c t d0, beforeV_1 m c t d1]
  unfold owns
  icases H3 with ⟨%f3, %e3, H3⟩
  icases H4 with ⟨%f4, %e4, H4⟩
  icases H5 with ⟨%f5, %e5, H5⟩
  have e5' : t.val ≠ 0 → (((cfgm m).win (2 : Fin 3)).stage ((cfgm m).slots t (2 : Fin 3))).view.read (Elt Ideal) f5 = outPt m t.val False :=
    fun h => e5.trans (beforeV_2 m c t h X)
  iapply (wp_wand_r frame (wpE (defs₀ (F := Ideal)) Variants.none c none) Set.univ)
  isplitl [H1 H2 H3 H4 H5 H6 H7]
  · iapply (point_val m ord c t ((cfgm m).slots t) d0 f3 f4 f5 g6 g7 e3 e4 e5' hT)
    isplitl [H1]; · iexact H1
    isplitl [H2]; · iexact H2
    isplitl [H3]; · iexact H3
    isplitl [H4]; · iexact H4
    isplitl [H5]; · iexact H5
    isplitl [H6]; · iexact H6
    iexact H7
  iintro %u ⟨%h5, %h6, %h7, H1, H2, H3, H4, H5, H6, H7, %hp⟩
  isplitl [Hr H1 H2 H6 H7]
  · isplitl [H6 H7]
    · iexists h6; iexists h7
      isplitl [H6]; · iexact H6
      isplitl [H7]; · iexact H7
      ipureintro
      exact fun _ => hp.2
    · isplitl [Hr]; · iexact Hr
      isplitl [H1]; · iexact H1
      iexact H2
  isplitl [Ho]; · iexact Ho
  isplitl [H3]
  · iexists d0; iexists f3
    isplitr [H3]
    · ipureintro
      rw [e3]
      exact congrArg (((cfgm m).win (0 : Fin 3)).fill ((cfgm m).grid.coords t) d0) (Window.cut_fill ((cfgm m).win (0 : Fin 3)) _ _ _).symm
    · iexact H3
  isplitl [H4]
  · iexists f4
    isplitr [H4]
    · ipureintro; exact e4
    · iexact H4
  · iexists h5
    isplitr [H5]
    · ipureintro; exact hp.1
    · iexact H5

/-- The result's array after the run is what the last point left. -/
theorem result_arr (c : Dev nD) : (datV m 0 c).arrAt (2 : Fin 3) (cfgm m).N = Ospec (segB m) (xRow m) (keyOf m) 100352 True := by
  refine (datV m 0 c).arrAt_eq_of_after_last (2 : Fin 3) (⟨48, by rw [show (cfgm m).N = 49 from N_0]; omega⟩ : Fin (cfgm m).N)
    ⟨(flush2 m _).2 rfl, fun t h => Fin.ext ((flush2 m t).1 h), fun a => ?_⟩ _ fun j => ?_
  · match a with
    | ⟨0, _⟩ => exact ⟨rfl, rfl⟩
    | ⟨1, _⟩ => exact ⟨rfl, rfl⟩
  · show Ospec (segB m) (xRow m) (keyOf m) (2048 * (48 + 1)) (48 = 48) j = Ospec (segB m) (xRow m) (keyOf m) 100352 True j
    rw [show ((48 : ℕ) = 48) = True from eq_true rfl]

/-- The whole program's run: the result is, segment by segment, the mean, the sum and the three rows of greatest key;
the rows and the segment numbers are as launched. -/
theorem run_result (ord : ∀ c : Dev nD, Pool.Ordered (m ((c : Thread nD τ).loc main_arg1))) (g : Dev nD → PrngReg) :
    θ_run (defs (F := Ideal)) (onTc main) (s₀ m g) (fun r => ∀ c : Dev nD,
      r.2.mem ((c : Thread nD τ).loc main_v10) = Ospec (segB m) (xRow m) (keyOf m) 100352 True
      ∧ r.2.mem ((c : Thread nD τ).loc main_arg0) = m ((c : Thread nD τ).loc main_arg0)
      ∧ r.2.mem ((c : Thread nD τ).loc main_arg1) = m ((c : Thread nD τ).loc main_arg1)) := by
  refine Pipeline.θ_run_frameP_track pcfgs (fun _ => adm m) (datV m) 0 launch0 defs₀ Variants.none m g main
    (obligation_val m ord) (fun c => (datV m 0 c).share_full fun _ => rfl) (fun _ _ => rfl) (V m) (hmain m) (fun _ _ => rfl) (V_pre m) (fun c => ?_) (fun c => ?_)
    _ (fun r h c => ⟨?_, ?_, ?_⟩)
  · show _ ⊢ between m c 0
    unfold between Pipeline.ΦA
    rw [scopedRest0_eq]
    iintro ⟨⟨⟨⟨%g6, H6⟩, ⟨%g7, H7⟩⟩, Hr⟩, HT⟩
    isplitl [H6 H7]
    · iexists g6; iexists g7
      isplitl [H6]; · iexact H6
      isplitl [H7]; · iexact H7
      ipureintro
      exact fun h => absurd rfl h
    · isplitl [Hr]; · iexact Hr
      iexact HT
  · show between m c _ ⊢ _
    unfold between Pipeline.ΦA
    rw [scopedRest0_eq]
    iintro ⟨⟨%g6, %g7, H6, H7, %hT⟩, Hr, HT⟩
    isplitl [H6 H7]
    · isplitl [H6]
      · iexists g6; iexact H6
      · iexists g7; iexact H7
    · iexact Hr
  · exact ((h.1 c).1 (2 : Fin 3)).trans (result_arr m c)
  · exact (((h.1 c).1 (0 : Fin 3)).trans ((datV m 0 c).arrAt_in (0 : Fin 3) rfl _)).trans (V_arg0 m c)
  · exact ((h.1 c).2 main_arg1 (Pipeline.mem_restRefs_of main_arg1 rfl arg1_rest)).trans (V_arg1 m c)

end Cert.KernelIdeal.Pool

end
-- ==== Proof.Equal.lean ====
/- The kernel's specification and the reference's, at equal arguments. -/
module

public import proofs.«01_k».proof.Proof.RefOut
public import proofs.«01_k».proof.Proof.Launch
public import Idealize.ShloMosaic.Lib.Pointwise.IndexBridge

@[expose] public section

set_option maxRecDepth 16384

noncomputable section

namespace Cert.KernelIdeal.Pool

open Cert.KernelIdeal Cert.KernelIdeal.Gen Idealize.ShloMosaic Idealize.ShloMosaic.TcCoe

variable (m : (ℓ : Loc nD τ sig) → Buf (Elt Ideal) ℓ)

/-- The rows as the reference counts them are the rows as the kernel counts them. -/
theorem rowX_eq (x : FVec Ideal S100000x256 .f32) (h : x = m (((0 : Dev nD) : Thread nD τ).loc main_arg0)) : Cert.ReferenceIdeal.Pool.rowX x = xRow m := by
  funext i c
  unfold Cert.ReferenceIdeal.Pool.rowX xRow
  split
  · rw [h, ← ix2_eq_valueIdx]
  · rfl

/-- The reference's result is the kernel's. -/
theorem out_kernel (x : FVec Ideal S100000x256 .f32) (b : IVec S100000 32) (hx : x = m (((0 : Dev nD) : Thread nD τ).loc main_arg0))
    (hb : b = m (((0 : Dev nD) : Thread nD τ).loc main_arg1)) (ord : Pool.Ordered b) :
    Cert.ReferenceIdeal.Pool.out x b = Ospec (segB m) (xRow m) (keyOf m) 100352 True := by
  rw [Cert.ReferenceIdeal.Pool.out_eq x ord]
  have hk : Cert.ReferenceIdeal.Pool.keyX x = keyOf m := by
    funext i
    unfold Cert.ReferenceIdeal.Pool.keyX keyOf
    rw [rowX_eq m x hx]
  have hs : Pool.segPad b = segB m := by
    funext i
    unfold segB seg
    rw [hb]
  rw [hk, hs, rowX_eq m x hx]

end Cert.KernelIdeal.Pool

end
-- ==== Proof.lean ====
/- The claims about the pooling kernel: the two kernels' frames, the reference's frame, and the equality of
the idealized kernel's result with the reference's. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_ordered
public import proofs.«01_k».proof.Proof.Gen.ReferenceIdeal.Run
public import proofs.«01_k».proof.Proof.Frame
public import proofs.«01_k».proof.Proof.FrameBits
public import proofs.«01_k».proof.Proof.Equal
public import Idealize.ShloMosaic.Adequacy
public import Idealize.ShloMosaic.Init

@[expose] public section

noncomputable section

namespace Cert.Proof

open Idealize.ShloMosaic Idealize.SL.Sem

/-- The kernel's frame: it runs, leaves its arguments as they were and ends with every counter at zero. -/
theorem frame_kernel : Cert.quiescent_Kernel := fun m g h =>
  Cert.Kernel.Pool.quiescent m (fun c => Pool.ordered_of_pre _ _ (h c)) g

/-- The idealized kernel's frame. -/
theorem frame_ideal : Cert.quiescent_KernelIdeal := fun m g h =>
  Cert.KernelIdeal.Pool.quiescent m (fun c => Pool.ordered_of_pre _ _ (h c)) g

/-- The reference's frame. -/
theorem frame_reference : Cert.quiescent_ReferenceIdeal := fun m g _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m g)

/-- The reference's frame, at the arguments that the precondition admits. -/
theorem frame_reference_ordered : Cert.quiescent_ReferenceIdeal_pre_ordered := fun m g _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m g)

/-- The idealized kernel and the reference, run on the same arguments, end with the same result: of every segment the mean, the sum
and the three rows of greatest key. -/
theorem equal_results : Cert.algebraic_KernelIdeal_ReferenceIdeal := by
  intro m g m' g' h he
  have ord := fun c => Pool.ordered_of_pre _ _ (h c)
  refine ⟨fun _ => Cert.KernelIdeal.Pool.Ospec (Cert.KernelIdeal.Pool.segB m) (Cert.KernelIdeal.Pool.xRow m) (Cert.KernelIdeal.Pool.keyOf m) 100352 True,
    Cert.KernelIdeal.Pool.run_result m ord g, ?_⟩
  refine (θ_run Cert.ReferenceIdeal.defs _ _).mono (fun r hr c => ⟨(hr c).1.trans ?_, (hr c).2⟩) (Cert.ReferenceIdeal.Value.run (F := Ideal) m' g')
  rw [Cert.ReferenceIdeal.Pool.result_out]
  obtain rfl : c = 0 := Subsingleton.elim _ _
  exact Cert.KernelIdeal.Pool.out_kernel m _ _ (he 0).1 (he 0).2 ((he 0).2 ▸ ord 0)

/-- Everything that is claimed. -/
theorem claim : Cert.Claim := ⟨Cert.Kernel.Gen.facts, Cert.KernelIdeal.Gen.facts, Cert.ReferenceIdeal.Gen.facts, Cert.Pre_ordered.Gen.facts,
  frame_kernel, frame_ideal, frame_reference, frame_reference_ordered, trivial, equal_results⟩

end Cert.Proof

end
